-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_embeddings_nonzero [hPre_embeddings_nonzero : Cert.Pre_embeddings_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_embeddings_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_embeddings_nonzero [hPre_embeddings_nonzero : Cert.Pre_embeddings_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_embeddings_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_embeddings_nonzero [hKernelIdeal : Cert.KernelIdeal.Facts] [hPre_embeddings_nonzero : Cert.Pre_embeddings_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_embeddings_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_embeddings_nonzero [hReferenceIdeal : Cert.ReferenceIdeal.Facts] [hPre_embeddings_nonzero : Cert.Pre_embeddings_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_embeddings_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_embeddings_nonzero [hKernelIdeal : Cert.KernelIdeal.Facts] [hReferenceIdeal : Cert.ReferenceIdeal.Facts] [hPre_embeddings_nonzero : Cert.Pre_embeddings_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_embeddings_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_embeddings_nonzero : Cert.Pre_embeddings_nonzero.Facts),
    quiescent_Kernel (hKernel := hKernel)
    ∧ quiescent_KernelIdeal (hKernelIdeal := hKernelIdeal)
    ∧ quiescent_KernelIdeal_pre_embeddings_nonzero (hKernelIdeal := hKernelIdeal) (hPre_embeddings_nonzero := hPre_embeddings_nonzero)
    ∧ quiescent_ReferenceIdeal (hReferenceIdeal := hReferenceIdeal)
    ∧ quiescent_ReferenceIdeal_pre_embeddings_nonzero (hReferenceIdeal := hReferenceIdeal) (hPre_embeddings_nonzero := hPre_embeddings_nonzero)
    ∧ preserves_Kernel_KernelIdeal
    ∧ algebraic_KernelIdeal_ReferenceIdeal_pre_embeddings_nonzero (hKernelIdeal := hKernelIdeal) (hReferenceIdeal := hReferenceIdeal) (hPre_embeddings_nonzero := hPre_embeddings_nonzero)
-- ==== Pre_embeddings_nonzero.lean ====
abbrev S128x512x10 : Shape := ⟨3, ![128, 512, 10]⟩
abbrev S512x64 : Shape := ⟨2, ![512, 64]⟩
abbrev S512x512x3 : Shape := ⟨3, ![512, 512, 3]⟩
abbrev S512 : Shape := ⟨1, ![512]⟩
abbrev S_ : Shape := ⟨0, ![]⟩

class Facts : Prop where
  bcast_S_S512x64 : S_.BroadcastsInDim S512x64 (![] : Fin 0 → Fin S512x64.rank)
  reducesTo_S512x64_S512_d1 : S512x64.ReducesTo [1] S512
  h_S_ : 0 < S_.numel

variable [Facts]

def fn {F : FTy → Type} [FloatOps F] (main_arg0 : FVec F S128x512x10 .f32) (main_arg1 : FVec F S512x64 .f32) (main_arg2 : FVec F S512x64 .f32) (main_arg3 : FVec F S512x512x3 .f32) (main_arg4 : FVec F S512 .f32) (main_arg5 : FVec F S512x512x3 .f32) (main_arg6 : FVec F S512 .f32) (main_arg7 : FVec F S512x512x3 .f32) (main_arg8 : FVec F S512 .f32) : IVec S512 1 :=
  let main_cst : FVec F S_ .f32 := constant S_ .f32 0x00000000#32
  let main_v0 : FVec F S512x64 .f32 := broadcastInDim S512x64 ![] bcast_S_S512x64 main_cst
  let main_v1 : IVec S512x64 1 := cmpf .une main_arg1 main_v0
  let main_c : IVec S_ 1 := constantI S_ 1 0#1
  let main_v2 : IVec S512 1 := (fun x v => Host.reduce IntOp.ori x v reducesTo_S512x64_S512_d1 h_S_) main_v1 main_c
  let main_cst_0 : FVec F S_ .f32 := constant S_ .f32 0x00000000#32
  let main_v3 : FVec F S512x64 .f32 := broadcastInDim S512x64 ![] bcast_S_S512x64 main_cst_0
  let main_v4 : IVec S512x64 1 := cmpf .une main_arg2 main_v3
  let main_c_1 : IVec S_ 1 := constantI S_ 1 0#1
  let main_v5 : IVec S512 1 := (fun x v => Host.reduce IntOp.ori x v reducesTo_S512x64_S512_d1 h_S_) main_v4 main_c_1
  let main_v6 : IVec S512 1 := andi main_v2 main_v5
  main_v6
-- ==== Kernel.lean ====
abbrev S128x512x10 : Shape := ⟨3, ![128, 512, 10]⟩
abbrev S512x64 : Shape := ⟨2, ![512, 64]⟩
abbrev S512x512x3 : Shape := ⟨3, ![512, 512, 3]⟩
abbrev S512 : Shape := ⟨1, ![512]⟩
abbrev S10x128x512 : Shape := ⟨3, ![10, 128, 512]⟩
abbrev S1280x512 : Shape := ⟨2, ![1280, 512]⟩
abbrev S3x512x512 : Shape := ⟨3, ![3, 512, 512]⟩
abbrev S64x512 : Shape := ⟨2, ![64, 512]⟩
abbrev S1x512 : Shape := ⟨2, ![1, 512]⟩
abbrev S3x512 : Shape := ⟨2, ![3, 512]⟩
abbrev S1x512x512 : Shape := ⟨3, ![1, 512, 512]⟩
abbrev S512x512 : Shape := ⟨2, ![512, 512]⟩
abbrev S128x512 : Shape := ⟨2, ![128, 512]⟩
abbrev S1152x512 : Shape := ⟨2, ![1152, 512]⟩
abbrev S256x512 : Shape := ⟨2, ![256, 512]⟩
abbrev S1024x512 : Shape := ⟨2, ![1024, 512]⟩
abbrev S768x512 : Shape := ⟨2, ![768, 512]⟩
abbrev S512x1 : Shape := ⟨2, ![512, 1]⟩
abbrev S138x65536 : Shape := ⟨2, ![138, 65536]⟩
abbrev S10x8x512 : Shape := ⟨3, ![10, 8, 512]⟩
abbrev S138x4096 : Shape := ⟨2, ![138, 4096]⟩
abbrev S10x1x512 : Shape := ⟨3, ![10, 1, 512]⟩
abbrev S10x512 : Shape := ⟨2, ![10, 512]⟩
abbrev S65536x138 : Shape := ⟨2, ![65536, 138]⟩

abbrev nBuf : Space → Nat
  | .hbm => 24
  | .vmem => 14
  | .smem => 0
  | _ => 0

abbrev bufTy : (tb : Table) → Fin (tcTables nBuf tb) → BufTy
  | .hbm, ⟨0, _⟩ => ⟨S128x512x10, .f32⟩
  | .hbm, ⟨1, _⟩ => ⟨S512x64, .f32⟩
  | .hbm, ⟨2, _⟩ => ⟨S512x64, .f32⟩
  | .hbm, ⟨3, _⟩ => ⟨S512x512x3, .f32⟩
  | .hbm, ⟨4, _⟩ => ⟨S512, .f32⟩
  | .hbm, ⟨5, _⟩ => ⟨S512x512x3, .f32⟩
  | .hbm, ⟨6, _⟩ => ⟨S512, .f32⟩
  | .hbm, ⟨7, _⟩ => ⟨S512x512x3, .f32⟩
  | .hbm, ⟨8, _⟩ => ⟨S512, .f32⟩
  | .hbm, ⟨9, _⟩ => ⟨S10x128x512, .f32⟩
  | .hbm, ⟨10, _⟩ => ⟨S1280x512, .f32⟩
  | .hbm, ⟨11, _⟩ => ⟨S3x512x512, .f32⟩
  | .hbm, ⟨12, _⟩ => ⟨S3x512x512, .f32⟩
  | .hbm, ⟨13, _⟩ => ⟨S3x512x512, .f32⟩
  | .hbm, ⟨14, _⟩ => ⟨S64x512, .f32⟩
  | .hbm, ⟨15, _⟩ => ⟨S64x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S3x512, .f32⟩
  | .hbm, ⟨20, _⟩ => ⟨S1280x512, .f32⟩
  | .hbm, ⟨21, _⟩ => ⟨S10x128x512, .f32⟩
  | .hbm, ⟨22, _⟩ => ⟨S138x65536, .f32⟩
  | .hbm, ⟨23, _⟩ => ⟨S65536x138, .f32⟩
  | .local _ .vmem, ⟨0, _⟩ => ⟨S1280x512, .f32⟩
  | .local _ .vmem, ⟨1, _⟩ => ⟨S64x512, .f32⟩
  | .local _ .vmem, ⟨2, _⟩ => ⟨S64x512, .f32⟩
  | .local _ .vmem, ⟨3, _⟩ => ⟨S3x512x512, .f32⟩
  | .local _ .vmem, ⟨4, _⟩ => ⟨S3x512x512, .f32⟩
  | .local _ .vmem, ⟨5, _⟩ => ⟨S3x512x512, .f32⟩
  | .local _ .vmem, ⟨6, _⟩ => ⟨S3x512, .f32⟩
  | .local _ .vmem, ⟨7, _⟩ => ⟨S1280x512, .f32⟩
  | .local _ .vmem, ⟨8, _⟩ => ⟨S10x8x512, .f32⟩
  | .local _ .vmem, ⟨9, _⟩ => ⟨S10x8x512, .f32⟩
  | .local _ .vmem, ⟨10, _⟩ => ⟨S64x512, .f32⟩
  | .local _ .vmem, ⟨11, _⟩ => ⟨S64x512, .f32⟩
  | .local _ .vmem, ⟨12, _⟩ => ⟨S138x4096, .f32⟩
  | .local _ .vmem, ⟨13, _⟩ => ⟨S138x4096, .f32⟩
  | _, _ => ⟨S128x512x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := .none

abbrev stage0_0 : Fin 1 → Memref sig .tc .vmem S1280x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1280x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S10x8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S138x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S128x512x10 : Shape := ⟨3, ![128, 512, 10]⟩
abbrev S512x64 : Shape := ⟨2, ![512, 64]⟩
abbrev S512x512x3 : Shape := ⟨3, ![512, 512, 3]⟩
abbrev S512 : Shape := ⟨1, ![512]⟩
abbrev S_ : Shape := ⟨0, ![]⟩
abbrev S128x512x12 : Shape := ⟨3, ![128, 512, 12]⟩
abbrev S512x512x1 : Shape := ⟨3, ![512, 512, 1]⟩
abbrev S512x512 : Shape := ⟨2, ![512, 512]⟩
abbrev S128x10x512 : Shape := ⟨3, ![128, 10, 512]⟩
abbrev S1x512x1 : Shape := ⟨3, ![1, 512, 1]⟩
abbrev S128x512x14 : Shape := ⟨3, ![128, 512, 14]⟩
abbrev S128x512x18 : Shape := ⟨3, ![128, 512, 18]⟩
abbrev S65536x10 : Shape := ⟨2, ![65536, 10]⟩
abbrev S512x1 : Shape := ⟨2, ![512, 1]⟩
abbrev S64x512 : Shape := ⟨2, ![64, 512]⟩
abbrev S512x20 : Shape := ⟨2, ![512, 20]⟩
abbrev S20x512 : Shape := ⟨2, ![20, 512]⟩
abbrev S10240 : Shape := ⟨1, ![10240]⟩
abbrev S128 : Shape := ⟨1, ![128]⟩
abbrev S128x10240 : Shape := ⟨2, ![128, 10240]⟩
abbrev S1310720 : Shape := ⟨1, ![1310720]⟩
abbrev S1x10240 : Shape := ⟨2, ![1, 10240]⟩
abbrev S1310720x1 : Shape := ⟨2, ![1310720, 1]⟩
abbrev S1 : Shape := ⟨1, ![1]⟩
abbrev S1x1 : Shape := ⟨2, ![1, 1]⟩
abbrev S1310720x10 : Shape := ⟨2, ![1310720, 10]⟩
abbrev S1x512x1x64 : Shape := ⟨4, ![1, 512, 1, 64]⟩
abbrev S128x512x1x64 : Shape := ⟨4, ![128, 512, 1, 64]⟩
abbrev S65536x64 : Shape := ⟨2, ![65536, 64]⟩
abbrev S65536x138 : Shape := ⟨2, ![65536, 138]⟩

abbrev nBuf : Space → Nat
  | .hbm => 197
  | .vmem => 0
  | .smem => 0
  | _ => 0

abbrev hbmTy0_0 (i : Nat) : BufTy := match i % 128 with
  | 0 => ⟨S128x512x10, .f32⟩
  | 1 => ⟨S512x64, .f32⟩
  | 2 => ⟨S512x64, .f32⟩
  | 3 => ⟨S512x512x3, .f32⟩
  | 4 => ⟨S512, .f32⟩
  | 5 => ⟨S512x512x3, .f32⟩
  | 6 => ⟨S512, .f32⟩
  | 7 => ⟨S512x512x3, .f32⟩
  | 8 => ⟨S512, .f32⟩
  | 9 => ⟨S_, .i32⟩
  | 10 => ⟨S_, .f32⟩
  | 11 => ⟨S128x512x12, .f32⟩
  | 12 => ⟨S512x512x1, .f32⟩
  | 13 => ⟨S512x512, .f32⟩
  | 14 => ⟨S128x512x10, .f32⟩
  | 15 => ⟨S128x10x512, .f32⟩
  | 16 => ⟨S128x512x10, .f32⟩
  | 17 => ⟨S_, .f32⟩
  | 18 => ⟨S128x512x10, .f32⟩
  | 19 => ⟨S128x512x10, .f32⟩
  | 20 => ⟨S512x512x1, .f32⟩
  | 21 => ⟨S512x512, .f32⟩
  | 22 => ⟨S128x512x10, .f32⟩
  | 23 => ⟨S128x10x512, .f32⟩
  | 24 => ⟨S128x512x10, .f32⟩
  | 25 => ⟨S128x512x10, .f32⟩
  | 26 => ⟨S512x512x1, .f32⟩
  | 27 => ⟨S512x512, .f32⟩
  | 28 => ⟨S128x512x10, .f32⟩
  | 29 => ⟨S128x10x512, .f32⟩
  | 30 => ⟨S128x512x10, .f32⟩
  | 31 => ⟨S128x512x10, .f32⟩
  | 32 => ⟨S1x512x1, .f32⟩
  | 33 => ⟨S128x512x10, .f32⟩
  | 34 => ⟨S128x512x10, .f32⟩
  | 35 => ⟨S_, .f32⟩
  | 36 => ⟨S128x512x10, .f32⟩
  | 37 => ⟨S128x512x10, .f32⟩
  | 38 => ⟨S_, .i32⟩
  | 39 => ⟨S_, .f32⟩
  | 40 => ⟨S128x512x14, .f32⟩
  | 41 => ⟨S512x512x1, .f32⟩
  | 42 => ⟨S512x512, .f32⟩
  | 43 => ⟨S128x512x10, .f32⟩
  | 44 => ⟨S128x10x512, .f32⟩
  | 45 => ⟨S128x512x10, .f32⟩
  | 46 => ⟨S_, .f32⟩
  | 47 => ⟨S128x512x10, .f32⟩
  | 48 => ⟨S128x512x10, .f32⟩
  | 49 => ⟨S512x512x1, .f32⟩
  | 50 => ⟨S512x512, .f32⟩
  | 51 => ⟨S128x512x10, .f32⟩
  | 52 => ⟨S128x10x512, .f32⟩
  | 53 => ⟨S128x512x10, .f32⟩
  | 54 => ⟨S128x512x10, .f32⟩
  | 55 => ⟨S512x512x1, .f32⟩
  | 56 => ⟨S512x512, .f32⟩
  | 57 => ⟨S128x512x10, .f32⟩
  | 58 => ⟨S128x10x512, .f32⟩
  | 59 => ⟨S128x512x10, .f32⟩
  | 60 => ⟨S128x512x10, .f32⟩
  | 61 => ⟨S1x512x1, .f32⟩
  | 62 => ⟨S128x512x10, .f32⟩
  | 63 => ⟨S128x512x10, .f32⟩
  | 64 => ⟨S_, .f32⟩
  | 65 => ⟨S128x512x10, .f32⟩
  | 66 => ⟨S128x512x10, .f32⟩
  | 67 => ⟨S_, .i32⟩
  | 68 => ⟨S_, .f32⟩
  | 69 => ⟨S128x512x18, .f32⟩
  | 70 => ⟨S512x512x1, .f32⟩
  | 71 => ⟨S512x512, .f32⟩
  | 72 => ⟨S128x512x10, .f32⟩
  | 73 => ⟨S128x10x512, .f32⟩
  | 74 => ⟨S128x512x10, .f32⟩
  | 75 => ⟨S_, .f32⟩
  | 76 => ⟨S128x512x10, .f32⟩
  | 77 => ⟨S128x512x10, .f32⟩
  | 78 => ⟨S512x512x1, .f32⟩
  | 79 => ⟨S512x512, .f32⟩
  | 80 => ⟨S128x512x10, .f32⟩
  | 81 => ⟨S128x10x512, .f32⟩
  | 82 => ⟨S128x512x10, .f32⟩
  | 83 => ⟨S128x512x10, .f32⟩
  | 84 => ⟨S512x512x1, .f32⟩
  | 85 => ⟨S512x512, .f32⟩
  | 86 => ⟨S128x512x10, .f32⟩
  | 87 => ⟨S128x10x512, .f32⟩
  | 88 => ⟨S128x512x10, .f32⟩
  | 89 => ⟨S128x512x10, .f32⟩
  | 90 => ⟨S1x512x1, .f32⟩
  | 91 => ⟨S128x512x10, .f32⟩
  | 92 => ⟨S128x512x10, .f32⟩
  | 93 => ⟨S_, .f32⟩
  | 94 => ⟨S128x512x10, .f32⟩
  | 95 => ⟨S128x512x10, .f32⟩
  | 96 => ⟨S128x512x10, .f32⟩
  | 97 => ⟨S_, .f32⟩
  | 98 => ⟨S128x512x10, .f32⟩
  | 99 => ⟨S128x512x10, .f32⟩
  | 100 => ⟨S65536x10, .f32⟩
  | 101 => ⟨S512x64, .f32⟩
  | 102 => ⟨S_, .f32⟩
  | 103 => ⟨S512, .f32⟩
  | 104 => ⟨S512x1, .f32⟩
  | 105 => ⟨S512x1, .f32⟩
  | 106 => ⟨S512x64, .f32⟩
  | 107 => ⟨S512x64, .f32⟩
  | 108 => ⟨S512x64, .f32⟩
  | 109 => ⟨S_, .f32⟩
  | 110 => ⟨S512, .f32⟩
  | 111 => ⟨S512x1, .f32⟩
  | 112 => ⟨S512x1, .f32⟩
  | 113 => ⟨S512x64, .f32⟩
  | 114 => ⟨S512x64, .f32⟩
  | 115 => ⟨S64x512, .f32⟩
  | 116 => ⟨S512x512, .f32⟩
  | 117 => ⟨S_, .f32⟩
  | 118 => ⟨S512x512, .f32⟩
  | 119 => ⟨S512x512, .f32⟩
  | 120 => ⟨S512x512, .i32⟩
  | 121 => ⟨S512x512, .i32⟩
  | 122 => ⟨S_, .i32⟩
  | 123 => ⟨S512x512, .i32⟩
  | 124 => ⟨S512x512, .i32⟩
  | 125 => ⟨S512x512, .i1⟩
  | 126 => ⟨S_, .f32⟩
  | 127 => ⟨S_, .f32⟩
  | _ => ⟨S128x512x10, .f32⟩

abbrev hbmTy0_1 (i : Nat) : BufTy := match i % 128 with
  | 0 => ⟨S512x512, .f32⟩
  | 1 => ⟨S512x512, .f32⟩
  | 2 => ⟨S512x512, .f32⟩
  | 3 => ⟨S512x20, .f32⟩
  | 4 => ⟨S512x20, .i32⟩
  | 5 => ⟨S20x512, .i32⟩
  | 6 => ⟨S512, .i32⟩
  | 7 => ⟨S512x20, .i32⟩
  | 8 => ⟨S10240, .i32⟩
  | 9 => ⟨S512x20, .i32⟩
  | 10 => ⟨S10240, .i32⟩
  | 11 => ⟨S128, .i32⟩
  | 12 => ⟨S128x10240, .i32⟩
  | 13 => ⟨S1310720, .i32⟩
  | 14 => ⟨S_, .i32⟩
  | 15 => ⟨S1310720, .i32⟩
  | 16 => ⟨S1310720, .i32⟩
  | 17 => ⟨S1x10240, .i32⟩
  | 18 => ⟨S128x10240, .i32⟩
  | 19 => ⟨S1310720, .i32⟩
  | 20 => ⟨S1310720, .i32⟩
  | 21 => ⟨S1x10240, .i32⟩
  | 22 => ⟨S128x10240, .i32⟩
  | 23 => ⟨S1310720, .i32⟩
  | 24 => ⟨S1310720, .i32⟩
  | 25 => ⟨S_, .i32⟩
  | 26 => ⟨S1310720, .i32⟩
  | 27 => ⟨S1310720, .i1⟩
  | 28 => ⟨S_, .i32⟩
  | 29 => ⟨S1310720, .i32⟩
  | 30 => ⟨S1310720, .i32⟩
  | 31 => ⟨S1310720, .i32⟩
  | 32 => ⟨S1310720x1, .i32⟩
  | 33 => ⟨S1, .i32⟩
  | 34 => ⟨S_, .i32⟩
  | 35 => ⟨S1310720x1, .i32⟩
  | 36 => ⟨S1310720x1, .i1⟩
  | 37 => ⟨S1x1, .i32⟩
  | 38 => ⟨S1310720x1, .i32⟩
  | 39 => ⟨S1310720x1, .i1⟩
  | 40 => ⟨S1310720x1, .i1⟩
  | 41 => ⟨S_, .i1⟩
  | 42 => ⟨S1310720, .i1⟩
  | 43 => ⟨S1310720x10, .f32⟩
  | 44 => ⟨S1310720x10, .i1⟩
  | 45 => ⟨S_, .f32⟩
  | 46 => ⟨S1310720x10, .f32⟩
  | 47 => ⟨S1310720x10, .f32⟩
  | 48 => ⟨S_, .f32⟩
  | 49 => ⟨S65536x10, .f32⟩
  | 50 => ⟨S_, .i32⟩
  | 51 => ⟨S1310720, .i32⟩
  | 52 => ⟨S1310720, .i1⟩
  | 53 => ⟨S_, .i32⟩
  | 54 => ⟨S1310720, .i32⟩
  | 55 => ⟨S1310720, .i32⟩
  | 56 => ⟨S1310720, .i32⟩
  | 57 => ⟨S1310720x1, .i32⟩
  | 58 => ⟨S65536x10, .f32⟩
  | 59 => ⟨S_, .f32⟩
  | 60 => ⟨S65536x10, .f32⟩
  | 61 => ⟨S65536x10, .f32⟩
  | 62 => ⟨S1x512x1x64, .f32⟩
  | 63 => ⟨S128x512x1x64, .f32⟩
  | 64 => ⟨S65536x64, .f32⟩
  | 65 => ⟨S1x512x1x64, .f32⟩
  | 66 => ⟨S128x512x1x64, .f32⟩
  | 67 => ⟨S65536x64, .f32⟩
  | 68 => ⟨S65536x138, .f32⟩
  | _ => ⟨S128x512x10, .f32⟩

abbrev hbmTy (i : Nat) : BufTy := match i / 128 with
  | 0 => hbmTy0_0 i
  | 1 => hbmTy0_1 i
  | _ => ⟨S128x512x10, .f32⟩

abbrev bufTy : (tb : Table) → Fin (tcTables nBuf tb) → BufTy
  | .hbm, ⟨i, _⟩ => hbmTy i
  | _, _ => ⟨S128x512x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call1_cst : Ref sig .tc := ⟨.hbm, 35, rfl⟩
abbrev main_call1_v0 : Ref sig .tc := ⟨.hbm, 36, rfl⟩
abbrev main_v23 : Ref sig .tc := ⟨.hbm, 37, rfl⟩
abbrev main_c_0 : Ref sig .tc := ⟨.hbm, 38, rfl⟩
abbrev main_call2_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call3_cst : Ref sig .tc := ⟨.hbm, 64, rfl⟩
abbrev main_call3_v0 : Ref sig .tc := ⟨.hbm, 65, rfl⟩
abbrev main_v47 : Ref sig .tc := ⟨.hbm, 66, rfl⟩
abbrev main_c_2 : Ref sig .tc := ⟨.hbm, 67, rfl⟩
abbrev main_call4_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_3 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_call5_cst : Ref sig .tc := ⟨.hbm, 93, rfl⟩
abbrev main_call5_v0 : Ref sig .tc := ⟨.hbm, 94, rfl⟩
abbrev main_v71 : Ref sig .tc := ⟨.hbm, 95, rfl⟩
abbrev main_v72 : Ref sig .tc := ⟨.hbm, 96, rfl⟩
abbrev main_call6_cst : Ref sig .tc := ⟨.hbm, 97, rfl⟩
abbrev main_call6_v0 : Ref sig .tc := ⟨.hbm, 98, rfl⟩
abbrev main_v73 : Ref sig .tc := ⟨.hbm, 99, rfl⟩
abbrev main_v74 : Ref sig .tc := ⟨.hbm, 100, rfl⟩
abbrev main_call7_v0 : Ref sig .tc := ⟨.hbm, 101, rfl⟩
abbrev main_call7_cst : Ref sig .tc := ⟨.hbm, 102, rfl⟩
abbrev main_call7_v1 : Ref sig .tc := ⟨.hbm, 103, rfl⟩
abbrev main_call7_v2 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_call8_v0 : Ref sig .tc := ⟨.hbm, 108, rfl⟩
abbrev main_call8_cst : Ref sig .tc := ⟨.hbm, 109, rfl⟩
abbrev main_call8_v1 : Ref sig .tc := ⟨.hbm, 110, rfl⟩
abbrev main_call8_v2 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call9_cst : Ref sig .tc := ⟨.hbm, 117, rfl⟩
abbrev main_call9_v0 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_4 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_5 : Ref sig .tc := ⟨.hbm, 126, rfl⟩
abbrev main_call10_v0 : Ref sig .tc := ⟨.hbm, 127, rfl⟩
abbrev main_call10_v1 : Ref sig .tc := ⟨.hbm, 128, rfl⟩
abbrev main_v89 : Ref sig .tc := ⟨.hbm, 129, rfl⟩
abbrev main_v90 : Ref sig .tc := ⟨.hbm, 130, rfl⟩
abbrev main_values : Ref sig .tc := ⟨.hbm, 131, rfl⟩
abbrev main_indices : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_c_6 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_call11_c : Ref sig .tc := ⟨.hbm, 153, rfl⟩
abbrev main_call11_v0 : Ref sig .tc := ⟨.hbm, 154, rfl⟩
abbrev main_call11_v1 : Ref sig .tc := ⟨.hbm, 155, rfl⟩
abbrev main_call11_c_0 : Ref sig .tc := ⟨.hbm, 156, rfl⟩
abbrev main_call11_v2 : Ref sig .tc := ⟨.hbm, 157, rfl⟩
abbrev main_call11_v3 : Ref sig .tc := ⟨.hbm, 158, rfl⟩
abbrev main_call11_v4 : Ref sig .tc := ⟨.hbm, 159, rfl⟩
abbrev main_call11_v5 : Ref sig .tc := ⟨.hbm, 160, rfl⟩
abbrev main_call11_c_1 : Ref sig .tc := ⟨.hbm, 161, rfl⟩
abbrev main_call11_c_2 : Ref sig .tc := ⟨.hbm, 162, rfl⟩
abbrev main_call11_v6 : Ref sig .tc := ⟨.hbm, 163, rfl⟩
abbrev main_call11_v7 : Ref sig .tc := ⟨.hbm, 164, rfl⟩
abbrev main_call11_v8 : Ref sig .tc := ⟨.hbm, 165, rfl⟩
abbrev main_call11_v9 : Ref sig .tc := ⟨.hbm, 166, rfl⟩
abbrev main_call11_v10 : Ref sig .tc := ⟨.hbm, 167, rfl⟩
abbrev main_call11_v11 : Ref sig .tc := ⟨.hbm, 168, rfl⟩
abbrev main_call11_c_3 : Ref sig .tc := ⟨.hbm, 169, rfl⟩
abbrev main_call11_v12 : Ref sig .tc := ⟨.hbm, 170, rfl⟩
abbrev main_call11_v13 : Ref sig .tc := ⟨.hbm, 171, rfl⟩
abbrev main_call11_v14 : Ref sig .tc := ⟨.hbm, 172, rfl⟩
abbrev main_call11_cst : Ref sig .tc := ⟨.hbm, 173, rfl⟩
abbrev main_call11_v15 : Ref sig .tc := ⟨.hbm, 174, rfl⟩
abbrev main_v110 : Ref sig .tc := ⟨.hbm, 175, rfl⟩
abbrev main_cst_7 : Ref sig .tc := ⟨.hbm, 176, rfl⟩
abbrev main_v111 : Ref sig .tc := ⟨.hbm, 177, rfl⟩
abbrev main_c_8 : Ref sig .tc := ⟨.hbm, 178, rfl⟩
abbrev main_v112 : Ref sig .tc := ⟨.hbm, 179, rfl⟩
abbrev main_v113 : Ref sig .tc := ⟨.hbm, 180, rfl⟩
abbrev main_c_9 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_call12_cst : Ref sig .tc := ⟨.hbm, 187, rfl⟩
abbrev main_call12_v0 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩

abbrev nD : Nat := 1
abbrev τ : Topo := Topo.v7x

variable {F : FTy → Type} [FloatOps F]
-- ==== Proof.MainVocab.lean ====
/- The vocabulary of the first kernel's body: the value it stores, said in few words — a causal convolution's parts
   (a tap's product, a shift of the rows by whole time steps, a bias row), and one round of the neighbour selection
   (the greatest entry of every row, the first column that holds it, that entry overwritten, that column marked). Every
   lemma states that a part of the stored value, as the body computes it, IS the vocabulary's term. -/
module

public import proofs.«01_k».proof.Proof.Gen.KernelIdeal.Frame

@[expose] public section

set_option maxRecDepth 16384

noncomputable section

namespace Cert.KernelIdeal.Hand

open Idealize.ShloMosaic Cert.KernelIdeal.Gen

variable {F : FTy → Type} [FloatOps F]

/-! ## The convolution layers -/

/-- One tap's product: every row times the tap's matrix. -/
def tap (X : FVec F S1280x512 .f32) (w : Vec F S1x512x512 .f32) : FVec F S1280x512 .f32 :=
  matmul dot_S1280x512_S512x512_S1280x512_1_1_0_0_n_n none X (shapeCast S512x512 w shapeCasts_S1x512x512_S512x512)
    (constant S1280x512 .f32 0x00000000#32)

/-- The rows moved down by 128 (one time step), zeros moved in. -/
def shift1 (X : FVec F S1280x512 .f32) : FVec F S1280x512 .f32 :=
  concatenate S1280x512 0 [⟨S128x512, broadcast S128x512 (Scalar.ofBits .f32 0x00000000#32)⟩,
    ⟨S1152x512, extractStridedSlice S1152x512 ![0, 0] X slices_S1280x512_o0_0_S1152x512⟩] concatenates_S128x512_S1152x512_S1280x512_d0

/-- The rows moved down by 256 (two time steps), zeros moved in. -/
def shift2 (X : FVec F S1280x512 .f32) : FVec F S1280x512 .f32 :=
  concatenate S1280x512 0 [⟨S256x512, broadcast S256x512 (Scalar.ofBits .f32 0x00000000#32)⟩,
    ⟨S1024x512, extractStridedSlice S1024x512 ![0, 0] X slices_S1280x512_o0_0_S1024x512⟩] concatenates_S256x512_S1024x512_S1280x512_d0

/-- The rows moved down by 512 (four time steps), zeros moved in. -/
def shift4 (X : FVec F S1280x512 .f32) : FVec F S1280x512 .f32 :=
  concatenate S1280x512 0 [⟨S512x512, broadcast S512x512 (Scalar.ofBits .f32 0x00000000#32)⟩,
    ⟨S768x512, extractStridedSlice S768x512 ![0, 0] X slices_S1280x512_o0_0_S768x512⟩] concatenates_S512x512_S768x512_S1280x512_d0

/-- The rows moved down by 1024 (eight time steps), zeros moved in. -/
def shift8 (X : FVec F S1280x512 .f32) : FVec F S1280x512 .f32 :=
  concatenate S1280x512 0 [⟨S1024x512, broadcast S1024x512 (Scalar.ofBits .f32 0x00000000#32)⟩,
    ⟨S256x512, extractStridedSlice S256x512 ![0, 0] X slices_S1280x512_o0_0_S256x512⟩] concatenates_S1024x512_S256x512_S1280x512_d0

/-- A bias row given to every row. -/
def biasRows (v : FVec F S1x512 .f32) : FVec F S1280x512 .f32 :=
  broadcastTo S1280x512 (shapeCast S1x512 (shapeCast S512 v shapeCasts_S1x512_S512) shapeCasts_S512_S1x512) broadcasts_S1x512_S1280x512

/-- The greater of every entry and zero. -/
def relu (X : FVec F S1280x512 .f32) : FVec F S1280x512 .f32 :=
  maximumf X (broadcast S1280x512 (Scalar.ofBits .f32 0x00000000#32))

/-- One layer: the three taps' products of the input and its two shifts, the bias added, the greater of it and zero. -/
def layer (sh sh' : FVec F S1280x512 .f32 → FVec F S1280x512 .f32) (X : FVec F S1280x512 .f32)
    (w2 w1 w0 : Vec F S1x512x512 .f32) (v : FVec F S1x512 .f32) : FVec F S1280x512 .f32 :=
  relu (addf (addf (addf (tap X w2) (tap (sh X) w1)) (tap (sh' X) w0)) (biasRows v))

/-- The three bias rows. -/
def bias0 (v : FVec F S3x512 .f32) : FVec F S1x512 .f32 := extractStridedSlice S1x512 ![0, 0] v slices_S3x512_o0_0_S1x512
def bias1 (v : FVec F S3x512 .f32) : FVec F S1x512 .f32 := extractStridedSlice S1x512 ![1, 0] v slices_S3x512_o1_0_S1x512
def bias2 (v : FVec F S3x512 .f32) : FVec F S1x512 .f32 := extractStridedSlice S1x512 ![2, 0] v slices_S3x512_o2_0_S1x512

/-- The first layer's value. -/
theorem pay4_eq (v0 : Vec F S3x512 .f32) (v2 : Vec F S1280x512 .f32) (a b c : Vec F S1x512x512 .f32) :
    k0_pay4 v0 v2 a b c = layer shift1 shift2 (k0_pay3 v2) a b c (bias0 (k0_pay2 v0)) := rfl

/-- The third layer's value and the residual, from the first layer's. -/
theorem pay9_eq (v1 : FVec F S3x512 .f32) (X v3 : FVec F S1280x512 .f32) (a b c d e f : Vec F S1x512x512 .f32) :
    k0_pay9 v3 (k0_pay7 v1 X (tap X a) (shift2 X) b c d e f) (k0_pay8 v1)
      = relu (addf (layer shift4 shift8 (layer shift2 shift4 X a b c (bias1 v1)) d e f (bias2 v1)) v3) := rfl

/-! ## The rounds of the neighbour selection -/

/-- Every entry's column. -/
def col : IVec S512x512 32 := iota .tc S512x512 32 [1] iota_S512x512_d1_w32

/-- Every row's greatest entry, as a column. -/
def maxCol (S : FVec F S512x512 .f32) : FVec F S512x1 .f32 :=
  shapeCast S512x1 (multiReduction .maximumf [1] S512 S 0xFF800000#32 reduces_S512x512_S512 (.inl rfl) rfl) shapeCasts_S512_S512x1

/-- Which entries equal their row's entry of a column. -/
def eqCol (S : FVec F S512x512 .f32) (M : FVec F S512x1 .f32) : IVec S512x512 1 :=
  cmpf .oeq S (broadcastTo S512x512 M broadcasts_S512x1_S512x512)

/-- The column of every marked entry, 512 elsewhere. -/
def colWhere (e : IVec S512x512 1) : IVec S512x512 32 := select e col (broadcast S512x512 512#32)

/-- Every row's least entry, given to the whole row. -/
def leastRows (I : IVec S512x512 32) : IVec S512x512 32 :=
  broadcastTo S512x512 (shapeCast S512x1 (multiReductionI .minsi [1] S512 I 2147483647#32 reduces_S512x512_S512 rfl)
    shapeCasts_S512_S512x1) broadcasts_S512x1_S512x512

/-- Which entries are the first to hold their row's greatest. -/
def topMask (S : FVec F S512x512 .f32) : IVec S512x512 1 :=
  cmpi .eq col (leastRows (colWhere (eqCol S (maxCol S))))

/-- The first greatest entry of every row overwritten with −∞. -/
def dropTop (S : FVec F S512x512 .f32) : FVec F S512x512 .f32 :=
  select (topMask S) (broadcast S512x512 (Scalar.ofBits .f32 0xFF800000#32)) S

/-- The first greatest entry of every row marked with 1. -/
def markTop (S A : FVec F S512x512 .f32) : FVec F S512x512 .f32 :=
  select (topMask S) (broadcast S512x512 (Scalar.ofBits .f32 0x3F800000#32)) A

/-- The scores after `k` rounds. -/
def scoresAfter (S : FVec F S512x512 .f32) : ℕ → FVec F S512x512 .f32
  | 0 => S
  | k + 1 => dropTop (scoresAfter S k)

/-- The marks after `k` rounds. -/
def marksAfter (S : FVec F S512x512 .f32) : ℕ → FVec F S512x512 .f32
  | 0 => broadcast S512x512 (Scalar.ofBits .f32 0x00000000#32)
  | k + 1 => markTop (scoresAfter S k) (marksAfter S k)

/-- Three rounds' drops and marks. -/
abbrev drop3 (S : FVec F S512x512 .f32) : FVec F S512x512 .f32 := dropTop (dropTop (dropTop S))
abbrev mark3 (S A : FVec F S512x512 .f32) : FVec F S512x512 .f32 :=
  markTop (dropTop (dropTop S)) (markTop (dropTop S) (markTop S A))

theorem pay11_eq (t s : Vec F S64x512 .f32) : k0_pay11 t s = topMask (k0_pay10 t s) := rfl
theorem pay12_eq (t s : Vec F S64x512 .f32) : k0_pay12 t s = marksAfter (k0_pay10 t s) 1 := rfl
theorem pay20_eq (S : FVec F S512x512 .f32) : k0_pay20 col S (topMask S) = drop3 (dropTop S) := rfl
theorem pay19_eq (S A : FVec F S512x512 .f32) : k0_pay19 col S (topMask S) A = mark3 (dropTop S) A := rfl
theorem pay27_eq (S : FVec F S512x512 .f32) : k0_pay27 col S = drop3 S := rfl
theorem pay28_eq (S : FVec F S512x512 .f32) : k0_pay28 col S = maxCol (drop3 S) := rfl
theorem pay26_eq (S A : FVec F S512x512 .f32) : k0_pay26 col A S = mark3 S A := rfl
theorem pay35_eq (S : FVec F S512x512 .f32) : k0_pay35 col S (maxCol S) = drop3 S := rfl
theorem pay36_eq (S : FVec F S512x512 .f32) : k0_pay36 col S (maxCol S) = eqCol (drop3 S) (maxCol (drop3 S)) := rfl
theorem pay34_eq (S A : FVec F S512x512 .f32) : k0_pay34 col A S (maxCol S) = mark3 S A := rfl
theorem pay43_eq (S : FVec F S512x512 .f32) : k0_pay43 col S (eqCol S (maxCol S)) 512#32 = drop3 S := rfl
theorem pay44_eq (S : FVec F S512x512 .f32) :
    k0_pay44 col S (eqCol S (maxCol S)) 512#32 = colWhere (eqCol (drop3 S) (maxCol (drop3 S))) := rfl
theorem pay42_eq (S A : FVec F S512x512 .f32) : k0_pay42 col A S (eqCol S (maxCol S)) 512#32 = mark3 S A := rfl
theorem pay51_eq (S : FVec F S512x512 .f32) : k0_pay51 col S (colWhere (eqCol S (maxCol S))) = drop3 S := rfl
theorem pay52_eq (S : FVec F S512x512 .f32) :
    k0_pay52 col S (colWhere (eqCol S (maxCol S))) = leastRows (colWhere (eqCol (drop3 S) (maxCol (drop3 S)))) := rfl
theorem pay50_eq (S A : FVec F S512x512 .f32) : k0_pay50 col A S (colWhere (eqCol S (maxCol S))) = mark3 S A := rfl
theorem pay58_eq (S A : FVec F S512x512 .f32) :
    k0_pay58 col A S (leastRows (colWhere (eqCol S (maxCol S)))) = mark3 S A := rfl
theorem pay59_eq (S : FVec F S512x512 .f32) :
    k0_pay59 col S (leastRows (colWhere (eqCol S (maxCol S)))) = topMask (drop3 S) := rfl
theorem pay1_eq (Z : FVec F S1280x512 .f32) (S A : FVec F S512x512 .f32) :
    k0_pay1 Z A (topMask S) (k0_pay60 (F := F))
      = relu (matmul dot_S1280x512_S512x512_S1280x512_1_1_0_0_n_n none Z (markTop S A) (constant S1280x512 .f32 0x00000000#32)) := rfl

end Cert.KernelIdeal.Hand

end
-- ==== Proof.MainValue.lean ====
/- What the first kernel leaves in its result array, over the arrays it was given: the vocabulary's term. -/
module

public import proofs.«01_k».proof.Proof.MainVocab
public import Idealize.ShloMosaic.Lib.Pipeline.Value

@[expose] public section

set_option maxRecDepth 16384

noncomputable section

namespace Cert.KernelIdeal.Hand

open Idealize.ShloMosaic Idealize.ShloMosaic.TcCoe Cert.KernelIdeal.Gen
open Idealize.ShloMosaic.Pipeline (Dat)

variable {F : FTy → Type} [FloatOps F]

theorem hz2 : (![0, 0] : Fin 2 → Nat) = fun _ => 0 := funext fun a => by fin_cases a <;> rfl

/-- The features the layers compute, from the input rows, the three layers' taps and the biases. -/
def feats (x : Vec F S1280x512 .f32) (w1 w2 w3 : Vec F S3x512x512 .f32) (b : Vec F S3x512 .f32) : FVec F S1280x512 .f32 :=
  relu (addf
    (layer shift4 shift8
      (layer shift2 shift4
        (layer shift1 shift2 (k0_pay3 x) (View.ld w1 r0_2) (View.ld w1 r0_3) (View.ld w1 r0_4) (bias0 (k0_pay2 b)))
        (View.ld w2 r0_2) (View.ld w2 r0_3) (View.ld w2 r0_4) (bias1 (k0_pay2 b)))
      (View.ld w3 r0_2) (View.ld w3 r0_3) (View.ld w3 r0_4) (bias2 (k0_pay2 b)))
    (k0_pay3 x))

/-- The value the first kernel stores: the features, summed over every node's marked neighbours. -/
def mainVal (x : Vec F S1280x512 .f32) (s t : Vec F S64x512 .f32) (w1 w2 w3 : Vec F S3x512x512 .f32) (b : Vec F S3x512 .f32) :
    FVec F S1280x512 .f32 :=
  relu (matmul dot_S1280x512_S512x512_S1280x512_1_1_0_0_n_n none (feats x w1 w2 w3 b) (marksAfter (k0_pay10 s t) 20)
    (constant S1280x512 .f32 0x00000000#32))

section Stored

variable (x : Vec F S1280x512 .f32) (s t : Vec F S64x512 .f32) (w1 w2 w3 : Vec F S3x512x512 .f32) (b : Vec F S3x512 .f32)

/-! The scores at the body's cuts, and what it keeps of each there. -/

theorem pay61_eq : k0_pay61 x s t w1 w2 w3 b = k0_pay2 b := by
  unfold k0_pay61; rw [View.ld_unit_zero hz2]
theorem pay62_eq : k0_pay62 x s t w1 w2 w3 b = col := rfl
theorem pay63_eq : k0_pay63 x s t w1 w2 w3 b = k0_pay10 s t := by
  unfold k0_pay63; rw [View.ld_unit_zero hz2, View.ld_unit_zero hz2]
theorem pay64_eq : k0_pay64 x s t w1 w2 w3 b = topMask (k0_pay10 s t) := by
  unfold k0_pay64; rw [View.ld_unit_zero hz2, View.ld_unit_zero hz2, pay11_eq]
theorem pay65_eq : k0_pay65 x s t w1 w2 w3 b = scoresAfter (k0_pay10 s t) 4 := by
  unfold k0_pay65; rw [pay62_eq, pay63_eq, pay64_eq, pay20_eq]; rfl
theorem pay66_eq : k0_pay66 x s t w1 w2 w3 b = scoresAfter (k0_pay10 s t) 7 := by
  unfold k0_pay66; rw [pay62_eq, pay65_eq, pay27_eq]; rfl
theorem pay67_eq : k0_pay67 x s t w1 w2 w3 b = maxCol (scoresAfter (k0_pay10 s t) 7) := by
  unfold k0_pay67; rw [pay62_eq, pay65_eq, pay28_eq]; rfl
theorem pay68_eq : k0_pay68 x s t w1 w2 w3 b = scoresAfter (k0_pay10 s t) 10 := by
  unfold k0_pay68; rw [pay62_eq, pay66_eq, pay67_eq, pay35_eq]; rfl
theorem pay69_eq : k0_pay69 x s t w1 w2 w3 b = eqCol (scoresAfter (k0_pay10 s t) 10) (maxCol (scoresAfter (k0_pay10 s t) 10)) := by
  unfold k0_pay69; rw [pay62_eq, pay66_eq, pay67_eq, pay36_eq]; rfl
theorem pay70_eq : k0_pay70 x s t w1 w2 w3 b = scoresAfter (k0_pay10 s t) 13 := by
  unfold k0_pay70; rw [pay62_eq, pay68_eq, pay69_eq, pay43_eq]; rfl
theorem pay71_eq : k0_pay71 x s t w1 w2 w3 b
    = colWhere (eqCol (scoresAfter (k0_pay10 s t) 13) (maxCol (scoresAfter (k0_pay10 s t) 13))) := by
  unfold k0_pay71; rw [pay62_eq, pay68_eq, pay69_eq, pay44_eq]; rfl
theorem pay72_eq : k0_pay72 x s t w1 w2 w3 b = scoresAfter (k0_pay10 s t) 16 := by
  unfold k0_pay72; rw [pay62_eq, pay70_eq, pay71_eq, pay51_eq]; rfl
theorem pay73_eq : k0_pay73 x s t w1 w2 w3 b
    = leastRows (colWhere (eqCol (scoresAfter (k0_pay10 s t) 16) (maxCol (scoresAfter (k0_pay10 s t) 16)))) := by
  unfold k0_pay73; rw [pay62_eq, pay70_eq, pay71_eq, pay52_eq]; rfl

/-- The body's stored value is the vocabulary's term. -/
theorem out0_7_eq : out0_7 x s t w1 w2 w3 b = mainVal x s t w1 w2 w3 b := by
  unfold out0_7
  rw [View.canon_unit_zero hz2]
  rw [pay61_eq, pay62_eq, pay63_eq, pay64_eq, pay65_eq, pay66_eq, pay67_eq, pay68_eq, pay69_eq, pay70_eq, pay71_eq, pay72_eq, pay73_eq]
  rw [View.ld_unit_zero (X := x) hz2, View.ld_unit_zero (X := s) hz2, View.ld_unit_zero (X := t) hz2, View.ld_unit_zero (X := b) hz2]
  rw [pay12_eq, pay19_eq, pay26_eq, pay34_eq, pay42_eq, pay50_eq, pay58_eq, pay59_eq, pay4_eq]
  rw [show k0_pay6 b x (View.ld w1 r0_2) (View.ld w1 r0_3) (View.ld w1 r0_4) = shift2 (k0_pay4 b x (View.ld w1 r0_2) (View.ld w1 r0_3) (View.ld w1 r0_4)) from rfl,
    show ∀ q, k0_pay5 b x (View.ld w1 r0_2) (View.ld w1 r0_3) (View.ld w1 r0_4) q = tap (k0_pay4 b x (View.ld w1 r0_2) (View.ld w1 r0_3) (View.ld w1 r0_4)) q from fun _ => rfl,
    pay4_eq, pay9_eq, pay1_eq]
  rfl

end Stored

/-! ## The array after the kernel -/

variable (V : (c : Dev nD) → (b : Ref sig .tc) → Buf (Elt F) ((c : Thread nD τ).loc b))

/-! Each input window's one block is its whole array. -/

theorem iblk0_0 (c : Dev nD) (t : Fin cfg0.N) : iblk0 V c 0 t = V c main_v1 := by
  rcases fin_N0 t with rfl
  funext i
  show V c main_v1 _ = V c main_v1 i
  congr 1
  funext a
  apply Fin.ext
  fin_cases a <;> (show 0 * _ + _ * _ = _; simp)
theorem iblk0_1 (c : Dev nD) (t : Fin cfg0.N) : iblk0 V c 1 t = V c main_v5 := by
  rcases fin_N0 t with rfl
  funext i
  show V c main_v5 _ = V c main_v5 i
  congr 1
  funext a
  apply Fin.ext
  fin_cases a <;> (show 0 * _ + _ * _ = _; simp)
theorem iblk0_2 (c : Dev nD) (t : Fin cfg0.N) : iblk0 V c 2 t = V c main_v6 := by
  rcases fin_N0 t with rfl
  funext i
  show V c main_v6 _ = V c main_v6 i
  congr 1
  funext a
  apply Fin.ext
  fin_cases a <;> (show 0 * _ + _ * _ = _; simp)
theorem iblk0_3 (c : Dev nD) (t : Fin cfg0.N) : iblk0 V c 3 t = V c main_v2 := by
  rcases fin_N0 t with rfl
  funext i
  show V c main_v2 _ = V c main_v2 i
  congr 1
  funext a
  apply Fin.ext
  fin_cases a <;> (show 0 * _ + _ * _ = _; simp)
theorem iblk0_4 (c : Dev nD) (t : Fin cfg0.N) : iblk0 V c 4 t = V c main_v3 := by
  rcases fin_N0 t with rfl
  funext i
  show V c main_v3 _ = V c main_v3 i
  congr 1
  funext a
  apply Fin.ext
  fin_cases a <;> (show 0 * _ + _ * _ = _; simp)
theorem iblk0_5 (c : Dev nD) (t : Fin cfg0.N) : iblk0 V c 5 t = V c main_v4 := by
  rcases fin_N0 t with rfl
  funext i
  show V c main_v4 _ = V c main_v4 i
  congr 1
  funext a
  apply Fin.ext
  fin_cases a <;> (show 0 * _ + _ * _ = _; simp)
theorem iblk0_6 (c : Dev nD) (t : Fin cfg0.N) : iblk0 V c 6 t = V c main_v10 := by
  rcases fin_N0 t with rfl
  funext i
  show V c main_v10 _ = V c main_v10 i
  congr 1
  funext a
  apply Fin.ext
  fin_cases a <;> (show 0 * _ + _ * _ = _; simp)

/-- The contents the kernel leaves in its result array. -/
abbrev mainOut (c : Dev nD) : Buf (Elt F) ((c : Thread nD τ).loc main_v11) :=
  mainVal (V c main_v1) (V c main_v5) (V c main_v6) (V c main_v2) (V c main_v3) (V c main_v4) (V c main_v10)

/-- What the kernel's one point writes back is the result's one block of these contents. -/
theorem flushed0_eq (c : Dev nD) (t : Fin cfg0.N) :
    (dat0 V c).flushed 7 t = (win0_7.blk t).view.read (Elt F) (mainOut V c) := by
  show (cfg0.win 7).cut (grid0.coords t) ((dat0 V c).after 7 t) = _
  rw [after0_7, iblk0_0, iblk0_1, iblk0_2, iblk0_3, iblk0_4, iblk0_5, iblk0_6, out0_7_eq]
  rcases fin_N0 t with rfl
  funext i
  show mainOut V c _ = mainOut V c _
  congr 1
  funext a
  apply Fin.ext
  fin_cases a <;> (show _ = 0 * _ + _ * _; simp <;> rfl)

/-- The one block is the whole array. -/
theorem cover0 (i : S1280x512.Idx) : ∃ t : Fin cfg0.N, (cfg0.win 7).flush t = true ∧ i ∈ ((cfg0.win 7).blk t).view.set := by
  refine ⟨t0_0, flush0_7 _, ?_⟩
  show i ∈ ((View.whole main_v11).slice (win0_7.rect t0_0)).set
  rw [View.set_slice_whole, Rect.mem_set_unit]
  intro a
  have h0 : (i 0 : Nat) < 1280 := (i 0).isLt
  have h1 : (i 1 : Nat) < 512 := (i 1).isLt
  match a with
  | ⟨0, _⟩ => exact ⟨by show 0 * _ ≤ _; simp, by show (i 0 : Nat) < 0 * 1280 + 1280; omega⟩
  | ⟨1, _⟩ => exact ⟨by show 0 * _ ≤ _; simp, by show (i 1 : Nat) < 0 * 512 + 512; omega⟩

/-- The result array after the kernel. -/
theorem final0 (c : Dev nD) : (dat0 V c).arrAt 7 cfg0.N = mainOut V c :=
  (dat0 V c).arrAt_eq_of_cover 7 (mainOut V c) (fun t _ => flushed0_eq V c t) cover0

end Cert.KernelIdeal.Hand

end
-- ==== Proof.AsmValue.lean ====
/- What the second kernel leaves in its result array, over the arrays it was given: rows 0–9 hold the aggregated features
   of every node of every batch entry, rows 10–73 the first embedding and rows 74–137 the second, once per batch entry. -/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.KernelIdeal.Hand

open Idealize.ShloMosaic Idealize.ShloMosaic.TcCoe Idealize.ShloMosaic.Tactic Cert.KernelIdeal.Gen
open Idealize.ShloMosaic.Pipeline (Dat)

variable {F : FTy → Type} [FloatOps F]
variable (V : (c : Dev nD) → (b : Ref sig .tc) → Buf (Elt F) ((c : Thread nD τ).loc b))

/-- One block of the second kernel's result. -/
def asmBlock (a : Vec F S10x8x512 .f32) (s t : Vec F S64x512 .f32) : Vec F S138x4096 .f32 := fun y =>
  have h0 : (y 0 : Nat) < 138 := (y 0).isLt
  have h1 : (y 1 : Nat) < 4096 := (y 1).isLt
  if h : (y 0 : Nat) < 10 then a (ix3 ⟨y 0, h⟩ ⟨(y 1 : Nat) / 512, by omega⟩ ⟨(y 1 : Nat) % 512, by omega⟩)
  else if h' : (y 0 : Nat) < 74 then s (ix2 ⟨(y 0 : Nat) - 10, by omega⟩ ⟨(y 1 : Nat) % 512, by omega⟩)
  else t (ix2 ⟨(y 0 : Nat) - 74, by omega⟩ ⟨(y 1 : Nat) % 512, by omega⟩)

theorem hz3 : (![0, 0, 0] : Fin 3 → Nat) = fun _ => 0 := funext fun a => by fin_cases a <;> rfl
theorem hz2' : (![0, 0] : Fin 2 → Nat) = fun _ => 0 := funext fun a => by fin_cases a <;> rfl

section Pieces

variable (a : Vec F S10x8x512 .f32) (s t : Vec F S64x512 .f32)

/-- The piece of batch entry `k` in rows 0–9: that entry of the aggregated features. -/
theorem piece_top (k : ℕ) (hk : k < 8) (hs : S10x8x512.Slices ![0, k, 0] S10x1x512)
    (inb : ∀ j, (![0, 512 * k] : Fin 2 → ℕ) j + S10x512.size j ≤ S138x4096.size j) (x : S10x512.Idx) :
    shapeCast S10x512 (extractStridedSlice S10x1x512 ![0, k, 0] (shapeCast S10x8x512 a shapeCasts_S10x8x512_S10x8x512) hs)
        shapeCasts_S10x1x512_S10x512 x
      = asmBlock a s t ((Rect.unit (s := S138x4096) ![0, 512 * k] S10x512.size inb).emb x) := by
  have h0 : (x 0 : Nat) < 10 := (x 0).isLt
  have h1 : (x 1 : Nat) < 512 := (x 1).isLt
  have e0 : ((Rect.unit (s := S138x4096) ![0, 512 * k] S10x512.size inb).emb x 0 : Nat) = x 0 := by
    show 0 + 1 * (x 0 : Nat) = x 0; omega
  have e1 : ((Rect.unit (s := S138x4096) ![0, 512 * k] S10x512.size inb).emb x 1 : Nat) = 512 * k + x 1 := by
    show 512 * k + 1 * (x 1 : Nat) = _; omega
  unfold asmBlock
  rw [dif_pos (by rw [e0]; exact h0)]
  have lhs : shapeCast S10x512 (extractStridedSlice S10x1x512 ![0, k, 0] (shapeCast S10x8x512 a shapeCasts_S10x8x512_S10x8x512) hs)
        shapeCasts_S10x1x512_S10x512 x = a (ix3 ⟨x 0, h0⟩ ⟨k, hk⟩ ⟨x 1, h1⟩) := by
    clear e0 e1 inb
    pointwise
  rw [lhs]
  congr 1
  funext j
  apply Fin.ext
  fin_cases j
  · exact e0.symm
  · show k = (_ : ℕ) / 512; rw [e1]; omega
  · show (x 1 : ℕ) = (_ : ℕ) % 512; rw [e1]; omega

/-- The piece of batch entry `k` in rows 10–73: the first embedding. -/
theorem piece_mid (k : ℕ) (inb : ∀ j, (![10, 512 * k] : Fin 2 → ℕ) j + S64x512.size j ≤ S138x4096.size j) (x : S64x512.Idx) :
    k1_pay1 s x = asmBlock a s t ((Rect.unit (s := S138x4096) ![10, 512 * k] S64x512.size inb).emb x) := by
  have h0 : (x 0 : Nat) < 64 := (x 0).isLt
  have h1 : (x 1 : Nat) < 512 := (x 1).isLt
  have e0 : ((Rect.unit (s := S138x4096) ![10, 512 * k] S64x512.size inb).emb x 0 : Nat) = 10 + x 0 := by
    show 10 + 1 * (x 0 : Nat) = _; omega
  have e1 : ((Rect.unit (s := S138x4096) ![10, 512 * k] S64x512.size inb).emb x 1 : Nat) = 512 * k + x 1 := by
    show 512 * k + 1 * (x 1 : Nat) = _; omega
  unfold asmBlock
  rw [dif_neg (by rw [e0]; omega), dif_pos (by rw [e0]; omega)]
  have lhs : k1_pay1 s x = s x := by unfold k1_pay1; pointwise
  rw [lhs]
  congr 1
  funext j
  apply Fin.ext
  fin_cases j
  · show (x 0 : ℕ) = (_ : ℕ) - 10; rw [e0]; omega
  · show (x 1 : ℕ) = (_ : ℕ) % 512; rw [e1]; omega

/-- The piece of batch entry `k` in rows 74–137: the second embedding. -/
theorem piece_bot (k : ℕ) (inb : ∀ j, (![74, 512 * k] : Fin 2 → ℕ) j + S64x512.size j ≤ S138x4096.size j) (x : S64x512.Idx) :
    k1_pay2 t x = asmBlock a s t ((Rect.unit (s := S138x4096) ![74, 512 * k] S64x512.size inb).emb x) := by
  have h0 : (x 0 : Nat) < 64 := (x 0).isLt
  have h1 : (x 1 : Nat) < 512 := (x 1).isLt
  have e0 : ((Rect.unit (s := S138x4096) ![74, 512 * k] S64x512.size inb).emb x 0 : Nat) = 74 + x 0 := by
    show 74 + 1 * (x 0 : Nat) = _; omega
  have e1 : ((Rect.unit (s := S138x4096) ![74, 512 * k] S64x512.size inb).emb x 1 : Nat) = 512 * k + x 1 := by
    show 512 * k + 1 * (x 1 : Nat) = _; omega
  unfold asmBlock
  rw [dif_neg (by rw [e0]; omega), dif_neg (by rw [e0]; omega)]
  have lhs : k1_pay2 t x = t x := by unfold k1_pay2; pointwise
  rw [lhs]
  congr 1
  funext j
  apply Fin.ext
  fin_cases j
  · show (x 0 : ℕ) = (_ : ℕ) - 74; rw [e0]; omega
  · show (x 1 : ℕ) = (_ : ℕ) % 512; rw [e1]; omega

end Pieces

/-- What the body leaves in its result block at a point is the block of its input blocks. -/
theorem outsAt1_eq (c : Dev nD) (t : Fin cfg1.N) :
    outsAt1 V c t = asmBlock (iblk1 V c 0 t) (iblk1 V c 1 t) (iblk1 V c 2 t) := by
  unfold outsAt1 out1_A_3
  rw [View.read_writes_eq_canon _ _ _ (cover1_A_3 _ _ _ _ _ _ _ _ _ _ _ _ _)]
  have hcov := cover1_A_3 c (grid1.coords t) (ms1_0 t) (hs1_0 t) (ms1_1 t) (hs1_1 t) (ms1_2 t) (hs1_2 t) (ms1_3 t) (hs1_3 t)
    (iblk1 V c 0 t) (iblk1 V c 1 t) (iblk1 V c 2 t)
  revert hcov
  unfold kernelRun1_A
  dsimp only
  sl_unfold_words
  simp only [View.readAt_eq_ld, (hs1_0 t).read_unread, (hs1_1 t).read_unread, (hs1_2 t).read_unread]
  intro hcov
  funext y
  refine View.canon_apply_of_pieces _ _ ?_ y (hcov y)
  rw [View.ld_unit_zero hz2', View.ld_unit_zero hz2', View.ld_unit_zero hz3]
  simp only [List.forall_mem_cons, List.not_mem_nil, false_imp_iff, implies_true, and_true]
  exact ⟨piece_bot _ _ _ 7 _, piece_mid _ _ _ 7 _, piece_top _ _ _ 7 (by decide) _ _,
    piece_bot _ _ _ 6 _, piece_mid _ _ _ 6 _, piece_top _ _ _ 6 (by decide) _ _,
    piece_bot _ _ _ 5 _, piece_mid _ _ _ 5 _, piece_top _ _ _ 5 (by decide) _ _,
    piece_bot _ _ _ 4 _, piece_mid _ _ _ 4 _, piece_top _ _ _ 4 (by decide) _ _,
    piece_bot _ _ _ 3 _, piece_mid _ _ _ 3 _, piece_top _ _ _ 3 (by decide) _ _,
    piece_bot _ _ _ 2 _, piece_mid _ _ _ 2 _, piece_top _ _ _ 2 (by decide) _ _,
    piece_bot _ _ _ 1 _, piece_mid _ _ _ 1 _, piece_top _ _ _ 1 (by decide) _ _,
    piece_bot _ _ _ 0 _, piece_mid _ _ _ 0 _, piece_top _ _ _ 0 (by decide) _ _⟩

/-! ## The array after the kernel -/

/-- The whole result, over the whole arrays. -/
def asmVal (a : Vec F S10x128x512 .f32) (s t : Vec F S64x512 .f32) : Vec F S138x65536 .f32 := fun y =>
  have h0 : (y 0 : Nat) < 138 := (y 0).isLt
  have h1 : (y 1 : Nat) < 65536 := (y 1).isLt
  if h : (y 0 : Nat) < 10 then a (ix3 ⟨y 0, h⟩ ⟨(y 1 : Nat) / 512, by omega⟩ ⟨(y 1 : Nat) % 512, by omega⟩)
  else if h' : (y 0 : Nat) < 74 then s (ix2 ⟨(y 0 : Nat) - 10, by omega⟩ ⟨(y 1 : Nat) % 512, by omega⟩)
  else t (ix2 ⟨(y 0 : Nat) - 74, by omega⟩ ⟨(y 1 : Nat) % 512, by omega⟩)

/-- The contents the kernel leaves in its result array. -/
abbrev asmOut (c : Dev nD) : Buf (Elt F) ((c : Thread nD τ).loc main_v13) :=
  asmVal (V c main_v12) (V c main_v5) (V c main_v6)

/-- Where the four windows' blocks lie at every point. -/
theorem idx1 : ∀ t : Fin grid1.N, (win1_0.index t 0 = 0 ∧ win1_0.index t 1 = t ∧ win1_0.index t 2 = 0)
    ∧ (win1_1.index t 0 = 0 ∧ win1_1.index t 1 = 0) ∧ (win1_2.index t 0 = 0 ∧ win1_2.index t 1 = 0)
    ∧ (win1_3.index t 0 = 0 ∧ win1_3.index t 1 = t) := by
  decide +kernel

/-- The blocks of the inputs at a point, read at an index. -/
theorem iblk1_0_apply (c : Dev nD) (t : Fin cfg1.N) (i : S10x8x512.Idx) (j : S10x128x512.Idx)
    (h0 : (j 0 : ℕ) = i 0) (h1 : (j 1 : ℕ) = 8 * t + i 1) (h2 : (j 2 : ℕ) = i 2) : iblk1 V c 0 t i = V c main_v12 j := by
  show V c main_v12 _ = V c main_v12 j
  obtain ⟨⟨e0, e1, e2⟩, -⟩ := idx1 t
  congr 1
  funext a
  apply Fin.ext
  fin_cases a
  · show win1_0.index t 0 * win1_0.size 0 + 1 * (i 0 : ℕ) = j 0; rw [e0]; omega
  · show win1_0.index t 1 * win1_0.size 1 + 1 * (i 1 : ℕ) = j 1; rw [e1]; show (t : ℕ) * 8 + 1 * (i 1 : ℕ) = j 1; omega
  · show win1_0.index t 2 * win1_0.size 2 + 1 * (i 2 : ℕ) = j 2; rw [e2]; omega
theorem iblk1_1_apply (c : Dev nD) (t : Fin cfg1.N) (i : S64x512.Idx) : iblk1 V c 1 t i = V c main_v5 i := by
  show V c main_v5 _ = V c main_v5 i
  obtain ⟨-, ⟨e0, e1⟩, -⟩ := idx1 t
  congr 1
  funext a
  apply Fin.ext
  fin_cases a
  · show win1_1.index t 0 * win1_1.size 0 + 1 * (i 0 : ℕ) = i 0; rw [e0]; omega
  · show win1_1.index t 1 * win1_1.size 1 + 1 * (i 1 : ℕ) = i 1; rw [e1]; omega
theorem iblk1_2_apply (c : Dev nD) (t : Fin cfg1.N) (i : S64x512.Idx) : iblk1 V c 2 t i = V c main_v6 i := by
  show V c main_v6 _ = V c main_v6 i
  obtain ⟨-, -, ⟨e0, e1⟩, -⟩ := idx1 t
  congr 1
  funext a
  apply Fin.ext
  fin_cases a
  · show win1_2.index t 0 * win1_2.size 0 + 1 * (i 0 : ℕ) = i 0; rw [e0]; omega
  · show win1_2.index t 1 * win1_2.size 1 + 1 * (i 1 : ℕ) = i 1; rw [e1]; omega

/-- A block of the whole result is the block function of the inputs' blocks. -/
theorem asmBlock_eq (a : Vec F S10x8x512 .f32) (s t : Vec F S64x512 .f32) (A : Vec F S10x128x512 .f32) (S T : Vec F S64x512 .f32)
    (n : ℕ) (ha : ∀ (i : S10x8x512.Idx) (j : S10x128x512.Idx), (j 0 : ℕ) = i 0 → (j 1 : ℕ) = 8 * n + i 1 → (j 2 : ℕ) = i 2 → a i = A j)
    (hs : ∀ i, s i = S i) (ht : ∀ i, t i = T i) (i : S138x4096.Idx) (y : S138x65536.Idx)
    (y0 : (y 0 : ℕ) = i 0) (y1 : (y 1 : ℕ) = 4096 * n + i 1) : asmBlock a s t i = asmVal A S T y := by
  have em : (y 1 : ℕ) % 512 = (i 1 : ℕ) % 512 := by rw [y1]; omega
  unfold asmBlock asmVal
  by_cases p : (i 0 : ℕ) < 10
  · have p' : (y 0 : ℕ) < 10 := by omega
    rw [dif_pos p, dif_pos p']
    refine ha _ _ y0 ?_ em
    show (y 1 : ℕ) / 512 = 8 * n + (i 1 : ℕ) / 512
    rw [y1]; omega
  · have p' : ¬ (y 0 : ℕ) < 10 := by omega
    by_cases q : (i 0 : ℕ) < 74
    · have q' : (y 0 : ℕ) < 74 := by omega
      rw [dif_neg p, dif_neg p', dif_pos q, dif_pos q', hs]
      congr 1; funext a; apply Fin.ext; fin_cases a
      · show (i 0 : ℕ) - 10 = (y 0 : ℕ) - 10; omega
      · exact em.symm
    · have q' : ¬ (y 0 : ℕ) < 74 := by omega
      rw [dif_neg p, dif_neg p', dif_neg q, dif_neg q', ht]
      congr 1; funext a; apply Fin.ext; fin_cases a
      · show (i 0 : ℕ) - 74 = (y 0 : ℕ) - 74; omega
      · exact em.symm

/-- What a point writes back is its block of these contents. -/
theorem flushed1_eq (c : Dev nD) (t : Fin cfg1.N) :
    (dat1 V c).flushed 3 t = (win1_3.blk t).view.read (Elt F) (asmOut V c) := by
  show (cfg1.win 3).cut (grid1.coords t) ((dat1 V c).after 3 t) = _
  rw [after1_3, outsAt1_eq]
  obtain ⟨-, -, -, ⟨e0, e1⟩⟩ := idx1 t
  funext i
  refine asmBlock_eq _ _ _ _ _ _ t.val (fun i j => iblk1_0_apply V c t i j) (iblk1_1_apply V c t) (iblk1_2_apply V c t) _ _ ?_ ?_
  · show win1_3.index t 0 * win1_3.size 0 + 1 * (i 0 : ℕ) = i 0; rw [e0]; omega
  · show win1_3.index t 1 * win1_3.size 1 + 1 * (i 1 : ℕ) = 4096 * t + i 1; rw [e1]; show (t : ℕ) * 4096 + 1 * (i 1 : ℕ) = 4096 * t + i 1; omega

/-- Every entry of the result lies in the block of one point. -/
theorem cover1 (i : S138x65536.Idx) : ∃ t : Fin cfg1.N, (cfg1.win 3).flush t = true ∧ i ∈ ((cfg1.win 3).blk t).view.set := by
  have h0 : (i 0 : Nat) < 138 := (i 0).isLt
  have h1 : (i 1 : Nat) < 65536 := (i 1).isLt
  let t : Fin grid1.N := ⟨(i 1 : ℕ) / 4096, by rw [N_1]; omega⟩
  refine ⟨t, flush1_3 _, ?_⟩
  show i ∈ ((View.whole main_v13).slice (win1_3.rect t)).set
  rw [View.set_slice_whole, Rect.mem_set_unit]
  obtain ⟨-, -, -, ⟨e0, e1⟩⟩ := idx1 t
  have et : (t : ℕ) = (i 1 : ℕ) / 4096 := rfl
  intro a
  match a with
  | ⟨0, _⟩ => show win1_3.index t 0 * 138 ≤ (i 0 : ℕ) ∧ (i 0 : ℕ) < win1_3.index t 0 * 138 + 138
              rw [e0]; omega
  | ⟨1, _⟩ => show win1_3.index t 1 * 4096 ≤ (i 1 : ℕ) ∧ (i 1 : ℕ) < win1_3.index t 1 * 4096 + 4096
              rw [e1, et]; omega

/-- The result array after the kernel. -/
theorem final1 (c : Dev nD) : (dat1 V c).arrAt 3 cfg1.N = asmOut V c :=
  (dat1 V c).arrAt_eq_of_cover 3 (asmOut V c) (fun t _ => flushed1_eq V c t) cover1

end Cert.KernelIdeal.Hand

end
-- ==== Proof.KernelRun.lean ====
/- The kernel program's run with its result: every execution from zero counters ends with the argument arrays as launched
   and the result array at the last boundary's contents (`W5`). The launch set-up is the generated frame's; what is
   added is the reading of the result array. -/
module

public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program from zero counters terminates; at the end the result array holds
    the last boundary's contents, the argument arrays are as launched, and every counter is zero. -/
theorem run : θ_run defs (onTc (τ := τ) (main (F := F))) ⟨m, fun _ => 0, ρ⟩ (fun r => (∀ c : Dev nD,
      r.2.mem ((c.tc : Thread nD τ).loc main_v14) = W5 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v14 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩), funext fun g => hz g (.inr (no_unscoped g.2))⟩)

end Cert.KernelIdeal.Hand

end
-- ==== Proof.KernelValue.lean ====
/- The kernel program's result array over the argument arrays: the two kernels' contents, carried through the host
   operations around them. -/
module

public import proofs.«01_k».proof.Proof.MainValue
public import proofs.«01_k».proof.Proof.AsmValue
public import proofs.«01_k».proof.Proof.KernelRun
public import Idealize.ShloMosaic.Lib.Claim

@[expose] public section

set_option maxRecDepth 16384

noncomputable section

namespace Cert.KernelIdeal.Hand

open Idealize.ShloMosaic Idealize.ShloMosaic.TcCoe Idealize.ShloMosaic.Tactic Cert.KernelIdeal.Gen Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg) (c : Dev nD)

/-! ## The arrays the first kernel is given -/

/-- The input with time first, its rows one per time step and batch entry. -/
def xRows (x : Vec F S128x512x10 .f32) : Vec F S1280x512 .f32 :=
  shapeCast S1280x512 (transpose S10x128x512 [2, 0, 1] x transposes_S128x512x10_S10x128x512_2_0_1) shapeCasts_S10x128x512_S1280x512
/-- A layer's weights with the tap first. -/
def wTaps (w : Vec F S512x512x3 .f32) : Vec F S3x512x512 .f32 := transpose S3x512x512 [2, 0, 1] w transposes_S512x512x3_S3x512x512_2_0_1
/-- An embedding with its coordinates first. -/
def embT (s : Vec F S512x64 .f32) : Vec F S64x512 .f32 := transpose S64x512 [1, 0] s transposes_S512x64_S64x512_1_0
/-- The three biases, one per row. -/
def biasStack (b1 b2 b3 : Vec F S512 .f32) : Vec F S3x512 .f32 :=
  concatenate S3x512 0 [⟨S1x512, broadcastInDim S1x512 ![1] bcast_S512_S1x512_1 b1⟩,
    ⟨S1x512, broadcastInDim S1x512 ![1] bcast_S512_S1x512_1 b2⟩, ⟨S1x512, broadcastInDim S1x512 ![1] bcast_S512_S1x512_1 b3⟩]
    concatenates_S1x512_S1x512_S1x512_S3x512_d0

theorem V1_v1 : V1 m ρ c main_v1 = xRows (m ((c : Thread nD τ).loc main_arg0)) := by
  show after hostOps0 (W0 m ρ c) _ = _
  after_results
  rfl
theorem V1_v2 : V1 m ρ c main_v2 = wTaps (m ((c : Thread nD τ).loc main_arg3)) := by
  show after hostOps0 (W0 m ρ c) _ = _
  after_results
  rfl
theorem V1_v5 : V1 m ρ c main_v5 = embT (m ((c : Thread nD τ).loc main_arg1)) := by
  show after hostOps0 (W0 m ρ c) _ = _
  after_results
  rfl
theorem V1_v3 : V1 m ρ c main_v3 = wTaps (m ((c : Thread nD τ).loc main_arg5)) := by
  show after hostOps0 (W0 m ρ c) _ = _
  after_results
  rfl
theorem V1_v4 : V1 m ρ c main_v4 = wTaps (m ((c : Thread nD τ).loc main_arg7)) := by
  show after hostOps0 (W0 m ρ c) _ = _
  after_results
  rfl
theorem V1_v6 : V1 m ρ c main_v6 = embT (m ((c : Thread nD τ).loc main_arg2)) := by
  show after hostOps0 (W0 m ρ c) _ = _
  after_results
  rfl
theorem V1_v10 : V1 m ρ c main_v10 = biasStack (m ((c : Thread nD τ).loc main_arg4)) (m ((c : Thread nD τ).loc main_arg6)) (m ((c : Thread nD τ).loc main_arg8)) := by
  show after hostOps0 (W0 m ρ c) _ = _
  after_results
  rfl

/-! ## The arrays the second kernel is given, and the result -/

/-- The first kernel's result over the argument arrays. -/
def aggRows (x : Vec F S128x512x10 .f32) (s t : Vec F S512x64 .f32) (w1 w2 w3 : Vec F S512x512x3 .f32) (b1 b2 b3 : Vec F S512 .f32) :
    Vec F S1280x512 .f32 :=
  mainVal (xRows x) (embT s) (embT t) (wTaps w1) (wTaps w2) (wTaps w3) (biasStack b1 b2 b3)

/-- The program's result over the argument arrays. -/
def kernelOut (x : Vec F S128x512x10 .f32) (s t : Vec F S512x64 .f32) (w1 : Vec F S512x512x3 .f32) (b1 : Vec F S512 .f32)
    (w2 : Vec F S512x512x3 .f32) (b2 : Vec F S512 .f32) (w3 : Vec F S512x512x3 .f32) (b3 : Vec F S512 .f32) : Vec F S65536x138 .f32 :=
  transpose S65536x138 [1, 0]
    (asmVal (shapeCast S10x128x512 (aggRows x s t w1 w2 w3 b1 b2 b3) shapeCasts_S1280x512_S10x128x512) (embT s) (embT t))
    transposes_S138x65536_S65536x138_1_0

/-- The first kernel's result array after it. -/
theorem V2_v11 : V2 m ρ c main_v11 = aggRows (m ((c : Thread nD τ).loc main_arg0)) (m ((c : Thread nD τ).loc main_arg1))
    (m ((c : Thread nD τ).loc main_arg2)) (m ((c : Thread nD τ).loc main_arg3)) (m ((c : Thread nD τ).loc main_arg5))
    (m ((c : Thread nD τ).loc main_arg7)) (m ((c : Thread nD τ).loc main_arg4)) (m ((c : Thread nD τ).loc main_arg6))
    (m ((c : Thread nD τ).loc main_arg8)) := by
  rw [show V2 m ρ c main_v11 = _ from (hF0 m ρ c 7).symm, final0]
  show mainVal _ _ _ _ _ _ _ = _
  rw [V1_v1, V1_v2, V1_v3, V1_v4, V1_v5, V1_v6, V1_v10]
  rfl

/-- The features the second kernel is given: the first kernel's result, time, batch entry and node apart. -/
theorem V3_v12 : V3 m ρ c main_v12 = shapeCast S10x128x512 (V2 m ρ c main_v11) shapeCasts_S1280x512_S10x128x512 := by
  show after hostOps1 (W2 m ρ c) _ = _
  after_results
  rfl
theorem V3_v5 : V3 m ρ c main_v5 = embT (m ((c : Thread nD τ).loc main_arg1)) :=
  (W3_of m ρ c main_v5 (by decide)).trans ((W2_of m ρ c main_v5 (by decide)).trans (V1_v5 m ρ c))
theorem V3_v6 : V3 m ρ c main_v6 = embT (m ((c : Thread nD τ).loc main_arg2)) :=
  (W3_of m ρ c main_v6 (by decide)).trans ((W2_of m ρ c main_v6 (by decide)).trans (V1_v6 m ρ c))

/-- The result array at the end holds the program's result over the argument arrays. -/
theorem W5_v14 : W5 m ρ c (Proc.devRef .tc main_v14) = kernelOut (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) := by
  have h : W5 m ρ c (Proc.devRef .tc main_v14)
      = transpose S65536x138 [1, 0] (V4 m ρ c main_v13) transposes_S138x65536_S65536x138_1_0 := by
    show after hostOps2 (W4 m ρ c) _ = _
    after_results
  rw [h, show V4 m ρ c main_v13 = _ from (hF1 m ρ c 3).symm, final1]
  unfold asmOut
  rw [V3_v12, V3_v5, V3_v6, V2_v11]
  rfl

end Cert.KernelIdeal.Hand

end
-- ==== Proof.Rounds.lean ====
/- Taking the greatest entry again and again: `k` rounds of "the greatest entry, the first position that holds it, that
   entry overwritten with −∞" name the first `k` positions of a stable descending sort, as long as the row has at least
   `k` entries above −∞. -/
module

public import Idealize.ShloMosaic.Lib.SortPrefix
public import Idealize.ShloMosaic.PureOps.Ideal

@[expose] public section

noncomputable section

namespace Cert.Rounds

open Idealize.ShloMosaic

variable {n : ℕ}

/-- Some position of a nonempty row holds its greatest entry, and no earlier position does. -/
theorem exists_first_max [NeZero n] (v : Fin n → EReal) : ∃ p, (∀ q, v q ≤ v p) ∧ ∀ q, v q = v p → p ≤ q := by
  classical
  obtain ⟨a, ha⟩ := Finite.exists_max v
  have hne : (Finset.univ.filter fun q => v q = v a).Nonempty := ⟨a, by simp⟩
  refine ⟨(Finset.univ.filter fun q => v q = v a).min' hne, ?_, ?_⟩
  · have := Finset.min'_mem _ hne
    simp only [Finset.mem_filter, Finset.mem_univ, true_and] at this
    rw [this]; exact ha
  · have := Finset.min'_mem _ hne
    simp only [Finset.mem_filter, Finset.mem_univ, true_and] at this
    intro q hq
    exact Finset.min'_le _ _ (by simp [hq, this])

/-- The first position that holds a row's greatest entry. -/
def pick [NeZero n] (v : Fin n → EReal) : Fin n := (exists_first_max v).choose

theorem le_pick [NeZero n] (v : Fin n → EReal) (q : Fin n) : v q ≤ v (pick v) := (exists_first_max v).choose_spec.1 q
theorem pick_le [NeZero n] (v : Fin n → EReal) (q : Fin n) (h : v q = v (pick v)) : pick v ≤ q :=
  (exists_first_max v).choose_spec.2 q h

/-- A position is the first greatest one as soon as no entry is above its entry and no earlier position holds it. -/
theorem eq_pick [NeZero n] (v : Fin n → EReal) (p : Fin n) (h : ∀ q, v q ≤ v p) (h' : ∀ q, v q = v p → p ≤ q) :
    p = pick v := by
  have e : v p = v (pick v) := le_antisymm (le_pick v p) (h _)
  exact le_antisymm (h' _ e.symm) (pick_le v p e)

/-- The row after `k` rounds: the first greatest entry of the row before, overwritten with −∞. -/
def state [NeZero n] (v : Fin n → EReal) : ℕ → Fin n → EReal
  | 0 => v
  | k + 1 => fun q => if q = pick (state v k) then ⊥ else state v k q

/-- The position that round `k` takes. -/
def pk [NeZero n] (v : Fin n → EReal) (k : ℕ) : Fin n := pick (state v k)

/-- After `k` rounds the taken positions hold −∞ and every other position its first entry. -/
theorem state_eq [NeZero n] (v : Fin n → EReal) (k : ℕ) (q : Fin n) :
    state v k q = if ∃ j < k, pk v j = q then ⊥ else v q := by
  induction k with
  | zero => simp [state]
  | succ k ih =>
    show (if q = pick (state v k) then ⊥ else state v k q) = _
    by_cases h : q = pick (state v k)
    · rw [if_pos h, if_pos ⟨k, Nat.lt_succ_self k, h.symm⟩]
    · rw [if_neg h, ih]
      congr 1
      refine propext ⟨fun ⟨j, hj, e⟩ => ⟨j, Nat.lt_succ_of_lt hj, e⟩, fun ⟨j, hj, e⟩ => ⟨j, ?_, e⟩⟩
      rcases Nat.lt_succ_iff_lt_or_eq.mp hj with h' | rfl
      · exact h'
      · exact absurd e.symm h

/-- While the row has entries above −∞ left, a round takes one of them. -/
theorem state_pk_ne_bot [NeZero n] (v : Fin n → EReal) {m k : ℕ} (hm : m ≤ (Finset.univ.filter fun q => v q ≠ ⊥).card)
    (hk : k < m) : state v k (pk v k) ≠ ⊥ := by
  classical
  intro h0
  have hall : ∀ q, state v k q = ⊥ := fun q => le_bot_iff.mp (h0 ▸ le_pick (state v k) q)
  have hsub : (Finset.univ.filter fun q => v q ≠ ⊥) ⊆ (Finset.range k).image (pk v) := by
    intro q hq
    simp only [Finset.mem_filter, Finset.mem_univ, true_and] at hq
    have := hall q
    rw [state_eq] at this
    by_cases h : ∃ j < k, pk v j = q
    · obtain ⟨j, hj, e⟩ := h
      exact Finset.mem_image.mpr ⟨j, Finset.mem_range.mpr hj, e⟩
    · rw [if_neg h] at this; exact absurd this hq
  have h1 := Finset.card_le_card hsub
  have h2 : ((Finset.range k).image (pk v)).card ≤ k := by
    simpa using (Finset.card_image_le (s := Finset.range k) (f := pk v))
  omega

/-- The rounds take different positions. -/
theorem pk_ne [NeZero n] (v : Fin n → EReal) {m i k : ℕ} (hm : m ≤ (Finset.univ.filter fun q => v q ≠ ⊥).card)
    (hk : k < m) (hi : i < k) : pk v i ≠ pk v k := by
  intro e
  apply state_pk_ne_bot v hm hk
  rw [state_eq, if_pos ⟨i, hi, e⟩]

theorem pk_inj [NeZero n] (v : Fin n → EReal) {m i k : ℕ} (hm : m ≤ (Finset.univ.filter fun q => v q ≠ ⊥).card)
    (hi : i < m) (hk : k < m) (e : pk v i = pk v k) : i = k := by
  rcases lt_trichotomy i k with h | h | h
  · exact absurd e (pk_ne v hm hk h)
  · exact h
  · exact absurd e.symm (pk_ne v hm hi h)

/-- A stable sort of an ascending list asks its comparator only about a later element against an earlier one. -/
theorem stableSort_congr_of_lt {ι : Type} [LinearOrder ι] (R R' : ι → ι → Bool) (h : ∀ a b, a < b → R b a = R' b a)
    (l : List ι) (hl : l.Pairwise (· < ·)) : stableSort R l = stableSort R' l := by
  induction l with
  | nil => rfl
  | cons a l ih =>
    rw [List.pairwise_cons] at hl
    show insertBefore R a (stableSort R l) = insertBefore R' a (stableSort R' l)
    rw [ih hl.2]
    exact insertBefore_congr R R' a _ fun b hb => h a b (hl.1 b ((perm_stableSort R' l).mem_iff.mp hb))

/-- A descending sort by the key alone, being stable, is the sort by the key and then the position. -/
theorem sortedFrom_eq_keyPos (v : Fin n → EReal) (i : Fin n) :
    sortedFrom (fun k k' => decide (v k' < v k)) i
      = sortedFrom (fun k k' => decide (v k' < v k) || (decide (v k = v k') && decide (k < k'))) i := by
  have e : sortPositions n (fun k k' => decide (v k' < v k))
      = sortPositions n (fun k k' => decide (v k' < v k) || (decide (v k = v k') && decide (k < k'))) := by
    unfold sortPositions
    refine stableSort_congr_of_lt _ _ (fun a b hab => ?_) _ (List.pairwise_lt_finRange n)
    have : ¬ b < a := not_lt.mpr hab.le
    simp [this]
  unfold sortedFrom
  simp only [List.get_eq_getElem, e]
  rfl

/-- The position of the `i`-th entry of a stable descending sort is the position that round `i` takes. -/
theorem sortedFrom_eq_pk [NeZero n] (v : Fin n → EReal) {m : ℕ} (hm : m ≤ (Finset.univ.filter fun q => v q ≠ ⊥).card)
    (hmn : m ≤ n) (i : Fin m) : sortedFrom (fun k k' => decide (v k' < v k)) (i.castLE hmn) = pk v i := by
  rw [sortedFrom_eq_keyPos]
  have hB := StrictTotalBefore.of_key_then_position (fun a b : EReal => decide (b < a)) v (by simp)
    (fun a b c h1 h2 => by simp only [decide_eq_true_eq] at *; exact lt_trans h2 h1)
    (fun a b => by
      simp only [decide_eq_true_eq]
      rcases lt_trichotomy a b with h | h | h
      · exact Or.inr (Or.inr h)
      · exact Or.inr (Or.inl h)
      · exact Or.inl h)
  have key : ∀ (i : Fin m) (p : Fin n), p ≠ pk v i → (∀ j < (i : ℕ), pk v j ≠ p) →
      (decide (v (pk v i) < v p) || (decide (v p = v (pk v i)) && decide (p < pk v i))) = false := by
    intro i p hne hp
    have h1 : state v i p = v p := by
      rw [state_eq, if_neg]; rintro ⟨j, hj, e⟩; exact hp j hj e
    have h2 : state v i (pk v i) = v (pk v i) := by
      rw [state_eq, if_neg]; rintro ⟨j, hj, e⟩; exact pk_ne v hm i.2 hj e
    have h3 : v p ≤ v (pk v i) := by rw [← h1, ← h2]; exact le_pick _ _
    have h4 : v p = v (pk v i) → pk v i ≤ p := fun e => pick_le (state v i) p (by
      show state v i p = state v i (pk v i)
      rw [h1, h2, e])
    rw [Bool.or_eq_false_iff, Bool.and_eq_false_iff]
    refine ⟨by simpa using h3, ?_⟩
    by_cases e : v p = v (pk v i)
    · right; simpa using h4 e
    · left; simpa using e
  refine hB.sortedFrom_eq_of_prefix hmn (fun i : Fin m => pk v i) (fun a b e => Fin.ext (pk_inj v hm a.2 b.2 e)) ?_ ?_ i
  · intro i j hij
    refine key i (pk v j) (fun e => ?_) (fun l hl e => ?_)
    · exact pk_ne v hm j.2 hij e.symm
    · exact pk_ne v hm j.2 (lt_trans hl hij) e
  · intro i p hp
    exact key i p (fun e => hp i e.symm) (fun j hj => hp ⟨j, lt_trans hj i.2⟩)

end Cert.Rounds

end
-- ==== Proof.Spec.lean ====
/- The problem's mathematics on the extended reals, entry by entry: what both programs compute. -/
module

public import proofs.«01_k».proof.Proof.Rounds
public import Idealize.ShloMosaic.PureOps.Ideal

@[expose] public section

noncomputable section

namespace Cert.Spec

open Idealize.ShloMosaic

/-- Features: batch entry, node, time step. -/
abbrev Feats := Fin 128 → Fin 512 → Fin 10 → EReal

/-- The features `d` time steps earlier, zero before the first. -/
def earlier (d : ℕ) (X : Feats) : Feats := fun b n l =>
  if d ≤ (l : ℕ) then X b n ⟨(l : ℕ) - d, lt_of_le_of_lt (Nat.sub_le _ _) l.isLt⟩ else 0

/-- One causal convolution layer of dilation `d`, three taps, with bias and rectifier. -/
def conv (d : ℕ) (W : Fin 512 → Fin 512 → Fin 3 → EReal) (β : Fin 512 → EReal) (X : Feats) : Feats := fun b n l =>
  max ((∑ c, X b c l * W n c 2) + (∑ c, earlier d X b c l * W n c 1) + (∑ c, earlier (2 * d) X b c l * W n c 0) + β n) 0

/-- The three layers and the residual. -/
def feats (W1 W2 W3 : Fin 512 → Fin 512 → Fin 3 → EReal) (β1 β2 β3 : Fin 512 → EReal) (X : Feats) : Feats := fun b n l =>
  max (conv 4 W3 β3 (conv 2 W2 β2 (conv 1 W1 β1 X)) b n l + X b n l) 0

/-- An embedding row divided by its norm. -/
def normed (E : Fin 512 → Fin 64 → EReal) (i : Fin 512) (e : Fin 64) : EReal :=
  Ideal.div (E i e) (Ideal.sqrt (∑ e', E i e' * E i e'))

/-- How much node `i` attends to node `j`: the rectified cosine similarity, −∞ for the node itself. -/
def score (S T : Fin 512 → Fin 64 → EReal) (i j : Fin 512) : EReal :=
  if j = i then ⊥ else max (∑ e, normed T i e * normed S j e) 0

/-- The `k`-th neighbour of node `i`: the `k`-th greatest score, the first of equals. -/
def nbr (S T : Fin 512 → Fin 64 → EReal) (i : Fin 512) (k : ℕ) : Fin 512 := Rounds.pk (score S T i) k

/-- The rectified sum of a node's twenty neighbours' features. -/
def agg (S T : Fin 512 → Fin 64 → EReal) (Z : Feats) : Feats := fun b i l => max (∑ k : Fin 20, Z b (nbr S T i k) l) 0

/-- The result at batch entry `b`, node `i`: the aggregated features and the two embeddings side by side. -/
def out (S T : Fin 512 → Fin 64 → EReal) (Z : Feats) (b : Fin 128) (i : Fin 512) (q : Fin 138) : EReal :=
  if h : (q : ℕ) < 10 then agg S T Z b i ⟨q, h⟩
  else if h' : (q : ℕ) < 74 then S i ⟨(q : ℕ) - 10, by omega⟩ else T i ⟨(q : ℕ) - 74, by have := q.isLt; omega⟩

/-- Every node has 511 scores above −∞. -/
theorem card_score (S T : Fin 512 → Fin 64 → EReal) (i : Fin 512) :
    20 ≤ (Finset.univ.filter fun j => score S T i j ≠ ⊥).card := by
  have h : (Finset.univ.filter fun j => score S T i j ≠ ⊥) = Finset.univ.erase i := by
    ext j
    simp only [Finset.mem_filter, Finset.mem_univ, true_and, Finset.mem_erase, and_true]
    unfold score
    by_cases e : j = i
    · simp [e]
    · simp only [if_neg e, ne_eq, e, not_false_eq_true, iff_true]
      exact ne_of_gt (lt_of_lt_of_le (EReal.bot_lt_zero) (le_max_right _ _))
  rw [h, Finset.card_erase_of_mem (Finset.mem_univ i), Finset.card_univ, Fintype.card_fin]
  decide

/-- The neighbours are different. -/
theorem nbr_inj (S T : Fin 512 → Fin 64 → EReal) (i : Fin 512) :
    Function.Injective fun k : Fin 20 => nbr S T i k :=
  fun a b e => Fin.ext (Rounds.pk_inj _ (card_score S T i) a.isLt b.isLt e)

end Cert.Spec

end
-- ==== Proof.ConvIdeal.lean ====
/- The first kernel's convolution layers on the extended reals: row `l * 128 + b` of what it computes is the features
   at batch entry `b` and time step `l`. -/
module

public import proofs.«01_k».proof.Proof.KernelValue
public import proofs.«01_k».proof.Proof.Spec
public import Idealize.ShloMosaic.Lib.Pointwise

@[expose] public section

set_option maxRecDepth 16384

noncomputable section

namespace Cert.KernelIdeal.Hand

open Idealize.ShloMosaic Cert.KernelIdeal.Gen

/-- The row of batch entry `b` at time step `l`. -/
def rowOf (b : Fin 128) (l : Fin 10) : Fin 1280 := ⟨(l : ℕ) * 128 + b, by have := b.isLt; have := l.isLt; omega⟩

/-- A matrix of rows holds features: row `l * 128 + b`, column `n`. -/
def Holds (X : FVec Ideal S1280x512 .f32) (V : Spec.Feats) : Prop := ∀ b n l, X (ix2 (rowOf b l) n) = V b n l

/-- An entry of a tap's product: the row times the tap's column. -/
theorem tap_apply (X : FVec Ideal S1280x512 .f32) (w : Vec Ideal S1x512x512 .f32) (r : Fin 1280) (n : Fin 512) :
    tap X w (ix2 r n) = ∑ c : Fin 512, X (ix2 r c) * w (ix3 0 n c) := by
  unfold tap
  pointwise

/-- Moving the rows down by one time step. -/
theorem shift1_holds (X : FVec Ideal S1280x512 .f32) (V : Spec.Feats) (h : Holds X V) : Holds (shift1 X) (Spec.earlier 1 V) := by
  intro b n l
  have hb := b.isLt
  unfold shift1 Spec.earlier
  pointwise
  by_cases e : 1 ≤ (l : ℕ)
  · rw [dif_neg (show ¬ (rowOf b l : ℕ) < 128 by simp only [rowOf]; omega), if_pos e, ← h]
    congr 2; ext; simp only [rowOf]; omega
  · rw [dif_pos (show (rowOf b l : ℕ) < 128 by simp only [rowOf]; omega), if_neg e]

/-- Moving the rows down by two time steps. -/
theorem shift2_holds (X : FVec Ideal S1280x512 .f32) (V : Spec.Feats) (h : Holds X V) : Holds (shift2 X) (Spec.earlier 2 V) := by
  intro b n l
  have hb := b.isLt
  unfold shift2 Spec.earlier
  pointwise
  by_cases e : 2 ≤ (l : ℕ)
  · rw [dif_neg (show ¬ (rowOf b l : ℕ) < 256 by simp only [rowOf]; omega), if_pos e, ← h]
    congr 2; ext; simp only [rowOf]; omega
  · rw [dif_pos (show (rowOf b l : ℕ) < 256 by simp only [rowOf]; omega), if_neg e]

/-- Moving the rows down by four time steps. -/
theorem shift4_holds (X : FVec Ideal S1280x512 .f32) (V : Spec.Feats) (h : Holds X V) : Holds (shift4 X) (Spec.earlier 4 V) := by
  intro b n l
  have hb := b.isLt
  unfold shift4 Spec.earlier
  pointwise
  by_cases e : 4 ≤ (l : ℕ)
  · rw [dif_neg (show ¬ (rowOf b l : ℕ) < 512 by simp only [rowOf]; omega), if_pos e, ← h]
    congr 2; ext; simp only [rowOf]; omega
  · rw [dif_pos (show (rowOf b l : ℕ) < 512 by simp only [rowOf]; omega), if_neg e]

/-- Moving the rows down by eight time steps. -/
theorem shift8_holds (X : FVec Ideal S1280x512 .f32) (V : Spec.Feats) (h : Holds X V) : Holds (shift8 X) (Spec.earlier 8 V) := by
  intro b n l
  have hb := b.isLt
  unfold shift8 Spec.earlier
  pointwise
  by_cases e : 8 ≤ (l : ℕ)
  · rw [dif_neg (show ¬ (rowOf b l : ℕ) < 1024 by simp only [rowOf]; omega), if_pos e, ← h]
    congr 2; ext; simp only [rowOf]; omega
  · rw [dif_pos (show (rowOf b l : ℕ) < 1024 by simp only [rowOf]; omega), if_neg e]

theorem biasRows_apply (v : FVec Ideal S1x512 .f32) (r : Fin 1280) (n : Fin 512) : biasRows v (ix2 r n) = v (ix2 0 n) := by
  unfold biasRows
  pointwise

theorem relu_apply (X : FVec Ideal S1280x512 .f32) (r : Fin 1280) (n : Fin 512) : relu X (ix2 r n) = max (X (ix2 r n)) 0 := by
  unfold relu
  pointwise

/-- A layer whose two shifts are by `d` and `2 * d` time steps is the convolution of dilation `d`. -/
theorem layer_holds {sh sh' : FVec Ideal S1280x512 .f32 → FVec Ideal S1280x512 .f32} {d : ℕ}
    (hs : ∀ X V, Holds X V → Holds (sh X) (Spec.earlier d V)) (hs' : ∀ X V, Holds X V → Holds (sh' X) (Spec.earlier (2 * d) V))
    (X : FVec Ideal S1280x512 .f32) (V : Spec.Feats) (h : Holds X V) (w2 w1 w0 : Vec Ideal S1x512x512 .f32)
    (v : FVec Ideal S1x512 .f32) (W : Fin 512 → Fin 512 → Fin 3 → EReal) (β : Fin 512 → EReal)
    (h2 : ∀ n c, w2 (ix3 0 n c) = W n c 2) (h1 : ∀ n c, w1 (ix3 0 n c) = W n c 1) (h0 : ∀ n c, w0 (ix3 0 n c) = W n c 0)
    (hv : ∀ n, v (ix2 0 n) = β n) : Holds (layer sh sh' X w2 w1 w0 v) (Spec.conv d W β V) := by
  intro b n l
  unfold layer Spec.conv
  rw [relu_apply]
  show max (tap X w2 (ix2 (rowOf b l) n) + tap (sh X) w1 (ix2 (rowOf b l) n) + tap (sh' X) w0 (ix2 (rowOf b l) n)
    + biasRows v (ix2 (rowOf b l) n)) 0 = _
  rw [tap_apply, tap_apply, tap_apply, biasRows_apply, hv]
  simp only [h2, h1, h0, h b _ l, hs X V h b _ l, hs' X V h b _ l]

/-! ## The arrays it is given -/

/-- The input's rows hold the input. -/
theorem xRows_holds (x : Vec Ideal S128x512x10 .f32) : Holds (xRows x) fun b n l => x (ix3 b n l) := by
  intro b n l
  have hb := b.isLt
  unfold xRows
  pointwise
  congr 2
  · ext; simp only [rowOf]; omega
  · ext; simp only [rowOf]; omega

/-- The tap read at row block `k` of the weights. -/
theorem wTaps_ld2 (w : Vec Ideal S512x512x3 .f32) (n c : Fin 512) : View.ld (wTaps w) r0_2 (ix3 0 n c) = w (ix3 n c 2) := by
  have e : View.ld (wTaps w) r0_2 (ix3 0 n c) = wTaps w (ix3 2 n c) := by
    refine congrArg (wTaps w) (funext fun a => Fin.ext ?_)
    fin_cases a <;> simp [Rect.emb, Rect.unit, ix3]
  rw [e]; unfold wTaps; pointwise
theorem wTaps_ld1 (w : Vec Ideal S512x512x3 .f32) (n c : Fin 512) : View.ld (wTaps w) r0_3 (ix3 0 n c) = w (ix3 n c 1) := by
  have e : View.ld (wTaps w) r0_3 (ix3 0 n c) = wTaps w (ix3 1 n c) := by
    refine congrArg (wTaps w) (funext fun a => Fin.ext ?_)
    fin_cases a <;> simp [Rect.emb, Rect.unit, ix3]
  rw [e]; unfold wTaps; pointwise
theorem wTaps_ld0 (w : Vec Ideal S512x512x3 .f32) (n c : Fin 512) : View.ld (wTaps w) r0_4 (ix3 0 n c) = w (ix3 n c 0) := by
  have e : View.ld (wTaps w) r0_4 (ix3 0 n c) = wTaps w (ix3 0 n c) := by
    refine congrArg (wTaps w) (funext fun a => Fin.ext ?_)
    fin_cases a <;> simp [Rect.emb, Rect.unit, ix3]
  rw [e]; unfold wTaps; pointwise

theorem bias0_apply (b1 b2 b3 : Vec Ideal S512 .f32) (n : Fin 512) :
    bias0 (k0_pay2 (biasStack b1 b2 b3)) (ix2 0 n) = b1 (ix1 n) := by
  unfold bias0 k0_pay2 biasStack
  pointwise
theorem bias1_apply (b1 b2 b3 : Vec Ideal S512 .f32) (n : Fin 512) :
    bias1 (k0_pay2 (biasStack b1 b2 b3)) (ix2 0 n) = b2 (ix1 n) := by
  unfold bias1 k0_pay2 biasStack
  pointwise
theorem bias2_apply (b1 b2 b3 : Vec Ideal S512 .f32) (n : Fin 512) :
    bias2 (k0_pay2 (biasStack b1 b2 b3)) (ix2 0 n) = b3 (ix1 n) := by
  unfold bias2 k0_pay2 biasStack
  pointwise

/-- The features the first kernel computes are the three layers' and the residual. -/
theorem feats_holds (x : Vec Ideal S128x512x10 .f32) (w1 w2 w3 : Vec Ideal S512x512x3 .f32) (b1 b2 b3 : Vec Ideal S512 .f32) :
    Holds (feats (xRows x) (wTaps w1) (wTaps w2) (wTaps w3) (biasStack b1 b2 b3))
      (Spec.feats (fun n c k => w1 (ix3 n c k)) (fun n c k => w2 (ix3 n c k)) (fun n c k => w3 (ix3 n c k))
        (fun n => b1 (ix1 n)) (fun n => b2 (ix1 n)) (fun n => b3 (ix1 n)) fun b n l => x (ix3 b n l)) := by
  have hx : Holds (k0_pay3 (xRows x)) fun b n l => x (ix3 b n l) := by
    have e : k0_pay3 (xRows x) = xRows x := by unfold k0_pay3; exact shapeCast_self _ _
    rw [e]; exact xRows_holds x
  have l1 := layer_holds (d := 1) shift1_holds shift2_holds _ _ hx _ _ _ _ (fun n c k => w1 (ix3 n c k)) _ (wTaps_ld2 w1) (wTaps_ld1 w1) (wTaps_ld0 w1)
    (bias0_apply b1 b2 b3)
  have l2 := layer_holds (d := 2) shift2_holds shift4_holds _ _ l1 _ _ _ _ (fun n c k => w2 (ix3 n c k)) _ (wTaps_ld2 w2) (wTaps_ld1 w2) (wTaps_ld0 w2)
    (bias1_apply b1 b2 b3)
  have l3 := layer_holds (d := 4) shift4_holds shift8_holds _ _ l2 _ _ _ _ (fun n c k => w3 (ix3 n c k)) _ (wTaps_ld2 w3) (wTaps_ld1 w3) (wTaps_ld0 w3)
    (bias2_apply b1 b2 b3)
  intro b n l
  unfold feats Spec.feats
  rw [relu_apply]
  exact congrArg₂ max (congrArg₂ (· + ·) (l3 b n l) (hx b n l)) rfl

end Cert.KernelIdeal.Hand

end
-- ==== Proof.Norm.lean ====
/- The norms on the extended reals: dividing by the root of a sum of squares is multiplying by its reciprocal root,
   where the sum is not zero; and the sum is not zero when an entry is not. -/
module

public import proofs.«01_k».proof.Proof.Spec

@[expose] public section

noncomputable section

namespace Cert.Spec

open Idealize.ShloMosaic

/-- A value times the reciprocal root of a positive one is the value divided by the root. -/
theorem mul_rsqrt (x Q : EReal) (hQ : 0 < Q) : x * Ideal.rsqrt Q = Ideal.div x (Ideal.sqrt Q) := by
  induction Q using EReal.rec with
  | bot => exact absurd hQ (by simp)
  | top => rw [Ideal.rsqrt_top, Ideal.sqrt_top]; unfold Ideal.div; rw [if_neg (by simp)]; simp
  | coe r =>
    have hr : 0 < r := by exact_mod_cast hQ
    have hs : Real.sqrt r ≠ 0 := (Real.sqrt_pos.mpr hr).ne'
    rw [Ideal.rsqrt_coe, Ideal.sqrt_coe, if_neg (not_lt.mpr hr.le), if_neg hr.ne', if_neg (not_lt.mpr hr.le)]
    unfold Ideal.div
    rw [if_neg (by exact_mod_cast hs), EReal.coe_inv]

theorem sq_nonneg' (x : EReal) : 0 ≤ x * x := by
  induction x using EReal.rec with
  | bot => simp
  | top => simp
  | coe r => exact_mod_cast mul_self_nonneg r

theorem sq_pos' (x : EReal) (h : x ≠ 0) : 0 < x * x :=
  lt_of_le_of_ne (sq_nonneg' x) fun e => h (by simpa using e.symm)

/-- The squares of a row that is not zero sum to a positive value. -/
theorem sumsq_pos {n : ℕ} (v : Fin n → EReal) (h : ∃ e, v e ≠ 0) : 0 < ∑ e, v e * v e := by
  obtain ⟨e, he⟩ := h
  exact lt_of_lt_of_le (sq_pos' _ he) (Finset.single_le_sum (f := fun e => v e * v e) (fun e _ => sq_nonneg' _) (Finset.mem_univ e))

/-- No embedding row is zero. -/
def RowsNonzero (E : Fin 512 → Fin 64 → EReal) : Prop := ∀ i, ∃ e, E i e ≠ 0

theorem normed_eq (E : Fin 512 → Fin 64 → EReal) (h : RowsNonzero E) (i : Fin 512) (e : Fin 64) :
    E i e * Ideal.rsqrt (∑ e', E i e' * E i e') = normed E i e := mul_rsqrt _ _ (sumsq_pos _ (h i))

end Cert.Spec

end
-- ==== Proof.Word.lean ====
/- Words that stand for columns, and the constants of both programs on the extended reals. -/
module

public import Idealize.ShloMosaic.Lib.Pointwise

@[expose] public section

noncomputable section

namespace Cert.Word

open Idealize.ShloMosaic

/-- Two words of columns are equal exactly when the columns are. -/
theorem ofNat_inj (i j : Fin 512) : BitVec.ofNat 32 (i : ℕ) = BitVec.ofNat 32 (j : ℕ) ↔ i = j := by
  constructor
  · intro h
    have h' := congrArg BitVec.toNat h
    rw [BitVec.toNat_ofNat, BitVec.toNat_ofNat, Nat.mod_eq_of_lt (by have := i.isLt; omega), Nat.mod_eq_of_lt (by have := j.isLt; omega)] at h'
    exact Fin.ext h'
  · rintro rfl; rfl

theorem cmpi_eq_col (i j : Fin 512) :
    IntOp.cmpi CmpIPredicate.eq (BitVec.ofNat 32 (i : ℕ)) (BitVec.ofNat 32 (j : ℕ)) = if i = j then 1#1 else 0#1 := by
  by_cases h : i = j
  · subst h; simp [IntOp.cmpi]
  · rw [if_neg h]
    have h' := fun e => h ((ofNat_inj i j).mp e)
    show BitVec.ofBool (BitVec.ofNat 32 (i : ℕ) == BitVec.ofNat 32 (j : ℕ)) = 0#1
    rw [beq_eq_false_iff_ne.mpr h']
    rfl

theorem ofBits_neg_inf : Ideal.ofBits .f32 0xFF800000#32 = ⊥ := by simp [Ideal.ofBits, Ideal.ieee]

end Cert.Word

end
-- ==== Proof.ScoreIdeal.lean ====
/- The first kernel's scores on the extended reals. -/
module

public import proofs.«01_k».proof.Proof.MainValue
public import proofs.«01_k».proof.Proof.Norm
public import proofs.«01_k».proof.Proof.Word

@[expose] public section

set_option maxRecDepth 16384

noncomputable section

namespace Cert.KernelIdeal.Hand

open Idealize.ShloMosaic Cert.Word Cert.KernelIdeal.Gen

/-- The scores the first kernel computes, for embeddings without a zero row. -/
theorem pay10_apply (s t : FVec Ideal S64x512 .f32) (hs : Spec.RowsNonzero fun j e => s (ix2 e j))
    (ht : Spec.RowsNonzero fun j e => t (ix2 e j)) (i j : Fin 512) :
    k0_pay10 (F := Ideal) s t (ix2 i j) = Spec.score (fun j e => s (ix2 e j)) (fun j e => t (ix2 e j)) i j := by
  unfold k0_pay10
  pointwise
  rw [cmpi_eq_col, ofBits_neg_inf]
  unfold Spec.score
  simp only [← Spec.normed_eq _ hs, ← Spec.normed_eq _ ht]
  by_cases h : j = i
  · rw [if_pos h, if_pos h]; rfl
  · rw [if_neg h, if_neg h]; rfl

end Cert.KernelIdeal.Hand

end
-- ==== Proof.RoundsIdeal.lean ====
/- The first kernel's neighbour selection on the extended reals: each round marks and overwrites the first greatest
   entry of every row, so after `k` rounds the marks are the first `k` picks. -/
module

public import proofs.«01_k».proof.Proof.ScoreIdeal
public import Idealize.ShloMosaic.Lib.Pointwise

@[expose] public section

set_option maxRecDepth 16384

noncomputable section

namespace Cert.KernelIdeal.Hand

open Idealize.ShloMosaic Cert.Word Cert.KernelIdeal.Gen

/-- The greatest entry of a nonempty row is the one at its pick. -/
theorem fold_max_eq (v : Fin 512 → EReal) : Finset.univ.fold max ⊥ v = v (Rounds.pick v) :=
  le_antisymm (Finset.fold_max_le (b := ⊥) (f := v) (s := Finset.univ) (v (Rounds.pick v)) |>.2
    ⟨bot_le, fun q _ => Rounds.le_pick v q⟩) (Finset.le_fold_max _ |>.2 (.inr ⟨_, Finset.mem_univ _, le_rfl⟩))

/-- Every row's greatest entry is the one at its pick. -/
theorem maxCol_apply (S : FVec Ideal S512x512 .f32) (i : Fin 512) (j : Fin 1) :
    maxCol S (ix2 i j) = S (ix2 i (Rounds.pick fun k => S (ix2 i k))) := by
  unfold maxCol
  pointwise
  rw [ofBits_neg_inf, fold_max_eq]

/-- The least of the marked positions of a row, by the signed minimum. -/
theorem fold_min_eq (m : Fin 512 → Prop) [DecidablePred m] (p : Fin 512) (hp : m p) (hl : ∀ q, m q → p ≤ q) :
    Finset.univ.fold IntOp.minsi (2147483647#32) (fun x : Fin 512 => if m x then BitVec.ofNat 32 (x : ℕ) else 512#32)
      = BitVec.ofNat 32 (p : ℕ) := by
  have hN : ∀ k : ℕ, k ≤ 512 → (BitVec.ofNat 32 k).toInt = k := fun k hk => by
    rw [BitVec.toInt_eq_toNat_of_lt (by rw [BitVec.toNat_ofNat]; omega), BitVec.toNat_ofNat, Nat.mod_eq_of_lt (by omega)]
  have hm : ∀ x y : BitVec 32, (IntOp.minsi x y).toInt = min x.toInt y.toInt := fun x y => by
    unfold IntOp.minsi
    by_cases h : x.toInt < y.toInt
    · rw [if_pos (BitVec.slt_iff_toInt_lt.mpr h), min_eq_left h.le]
    · rw [if_neg (fun h' => h (BitVec.slt_iff_toInt_lt.mp h')), min_eq_right (not_lt.mp h)]
  refine BitVec.eq_of_toInt_eq ?_
  rw [← Finset.fold_hom (op := IntOp.minsi) (op' := min) (m := BitVec.toInt) hm, hN _ p.isLt.le]
  have hv : ∀ x : Fin 512, (if m x then BitVec.ofNat 32 (x : ℕ) else 512#32).toInt = if m x then ((x : ℕ) : ℤ) else 512 := fun x => by
    by_cases h : m x
    · rw [if_pos h, if_pos h, hN _ x.isLt.le]
    · rw [if_neg h, if_neg h]; exact hN 512 le_rfl
  simp only [hv]
  have hp' := p.isLt
  refine le_antisymm (Finset.fold_min_le _ |>.2 (.inr ⟨p, Finset.mem_univ _, by rw [if_pos hp]⟩))
    (Finset.le_fold_min _ |>.2 ⟨?_, fun q _ => ?_⟩)
  · rw [show (2147483647#32).toInt = 2147483647 by decide]; omega
  · by_cases h : m q
    · rw [if_pos h]; exact_mod_cast hl q h
    · rw [if_neg h]; omega

/-- The mask marks every row's pick. -/
theorem topMask_apply (S : FVec Ideal S512x512 .f32) (i j : Fin 512) :
    topMask S (ix2 i j) = if j = Rounds.pick (fun k => S (ix2 i k)) then 1#1 else 0#1 := by
  unfold topMask leastRows colWhere eqCol col
  pointwise
  simp only [maxCol_apply]
  rw [fold_min_eq (fun x => S (ix2 i x) = S (ix2 i (Rounds.pick fun k => S (ix2 i k)))) (Rounds.pick fun k => S (ix2 i k)) rfl
    (fun q hq => Rounds.pick_le _ _ hq), cmpi_eq_col]

/-- After `k` rounds, every row of the scores is the row with its first `k` picks overwritten. -/
theorem scoresAfter_apply (S : FVec Ideal S512x512 .f32) (k : ℕ) (i j : Fin 512) :
    scoresAfter S k (ix2 i j) = Rounds.state (fun q => S (ix2 i q)) k j := by
  induction k generalizing j with
  | zero => rfl
  | succ k ih =>
    show dropTop (scoresAfter S k) (ix2 i j) = _
    unfold dropTop
    show (if topMask (scoresAfter S k) (ix2 i j) = 1#1 then Ideal.ofBits .f32 0xFF800000#32 else scoresAfter S k (ix2 i j)) = _
    rw [topMask_apply, ofBits_neg_inf, funext ih]
    show _ = if j = Rounds.pick (Rounds.state (fun q => S (ix2 i q)) k) then ⊥ else _
    by_cases e : j = Rounds.pick (Rounds.state (fun q => S (ix2 i q)) k)
    · rw [if_pos e, if_pos e, if_pos rfl]
    · rw [if_neg e, if_neg e, if_neg (by decide)]; exact ih j

/-- After `k` rounds, the marks of every row are its first `k` picks. -/
theorem marksAfter_apply (S : FVec Ideal S512x512 .f32) (k : ℕ) (i j : Fin 512) :
    marksAfter S k (ix2 i j) = if ∃ h < k, Rounds.pk (fun q => S (ix2 i q)) h = j then 1 else 0 := by
  induction k generalizing j with
  | zero =>
    rw [if_neg (by rintro ⟨h, hh, -⟩; omega)]
    exact Ideal.ofBits_zero_f32
  | succ k ih =>
    show markTop (scoresAfter S k) (marksAfter S k) (ix2 i j) = _
    unfold markTop
    show (if topMask (scoresAfter S k) (ix2 i j) = 1#1 then Ideal.ofBits .f32 0x3F800000#32 else marksAfter S k (ix2 i j)) = _
    rw [topMask_apply, Ideal.ofBits_one_f32, ih, funext (scoresAfter_apply S k i)]
    by_cases e : j = Rounds.pick (Rounds.state (fun q => S (ix2 i q)) k)
    · rw [if_pos e, if_pos rfl, if_pos ⟨k, by omega, e.symm⟩]
    · rw [if_neg e, if_neg (by decide)]
      refine if_congr ⟨fun ⟨h, hh, q⟩ => ⟨h, by omega, q⟩, fun ⟨h, hh, q⟩ => ⟨h, ?_, q⟩⟩ rfl rfl
      rcases Nat.lt_succ_iff_lt_or_eq.mp hh with h' | h'
      · exact h'
      · exact absurd (by rw [h'] at q; exact q.symm) e

end Cert.KernelIdeal.Hand

end
-- ==== Proof.KernelRead.lean ====
/- The kernel program's result on the extended reals, entry by entry: at batch entry `b` and node `i` it is the
   specification's row. -/
module

public import proofs.«01_k».proof.Proof.ConvIdeal
public import proofs.«01_k».proof.Proof.RoundsIdeal

@[expose] public section

set_option maxRecDepth 16384

noncomputable section

namespace Cert.KernelIdeal.Hand

open Idealize.ShloMosaic Cert.KernelIdeal.Gen

/-- Summing over every node with the marks as weights is summing over the neighbours. -/
theorem sum_marks (S T : Fin 512 → Fin 64 → EReal) (i : Fin 512) (z : Fin 512 → EReal) (K : ℕ)
    (hK : K = 20) :
    (∑ j, z j * (if ∃ h < K, Rounds.pk (Spec.score S T i) h = j then (1 : EReal) else 0)) = ∑ k : Fin 20, z (Spec.nbr S T i k) := by
  have h : ∀ j, z j * (if ∃ h < K, Rounds.pk (Spec.score S T i) h = j then (1 : EReal) else 0)
      = if j ∈ Finset.univ.image (fun k : Fin 20 => Spec.nbr S T i k) then z j else 0 := fun j => by
    have e : (∃ h < K, Rounds.pk (Spec.score S T i) h = j) ↔ j ∈ Finset.univ.image (fun k : Fin 20 => Spec.nbr S T i k) := by
      simp only [Finset.mem_image, Finset.mem_univ, true_and]
      exact ⟨fun ⟨h, hh, q⟩ => ⟨⟨h, hK ▸ hh⟩, q⟩, fun ⟨k, q⟩ => ⟨k, hK ▸ k.isLt, q⟩⟩
    by_cases q : j ∈ Finset.univ.image (fun k : Fin 20 => Spec.nbr S T i k)
    · rw [if_pos (e.mpr q), if_pos q, mul_one]
    · rw [if_neg (fun q' => q (e.mp q')), if_neg q, mul_zero]
  simp only [h]
  rw [← Finset.sum_filter, Finset.filter_mem_eq_inter, Finset.univ_inter, Finset.sum_image fun a _ b _ e => Spec.nbr_inj S T i e]

section

variable (x : Vec Ideal S128x512x10 .f32) (s t : Vec Ideal S512x64 .f32) (w1 w2 w3 : Vec Ideal S512x512x3 .f32)
  (b1 b2 b3 : Vec Ideal S512 .f32)

/-- An embedding array's rows. -/
abbrev emb (s : Vec Ideal S512x64 .f32) : Fin 512 → Fin 64 → EReal := fun i e => s (ix2 i e)

/-- The features over the argument arrays. -/
abbrev featsOf : Spec.Feats :=
  Spec.feats (fun n c k => w1 (ix3 n c k)) (fun n c k => w2 (ix3 n c k)) (fun n c k => w3 (ix3 n c k))
    (fun n => b1 (ix1 n)) (fun n => b2 (ix1 n)) (fun n => b3 (ix1 n)) fun b n l => x (ix3 b n l)

theorem embT_apply (s : Vec Ideal S512x64 .f32) (e : Fin 64) (i : Fin 512) : embT s (ix2 e i) = s (ix2 i e) := by
  unfold embT
  pointwise

/-- The first kernel's result is the aggregated features. -/
theorem aggRows_holds (hs : Spec.RowsNonzero (emb s)) (ht : Spec.RowsNonzero (emb t)) :
    Holds (aggRows x s t w1 w2 w3 b1 b2 b3) (Spec.agg (emb s) (emb t) (featsOf x w1 w2 w3 b1 b2 b3)) := by
  intro b i l
  have hS : (fun j e => embT s (ix2 e j)) = emb s := by funext j e; exact embT_apply s e j
  have hT : (fun j e => embT t (ix2 e j)) = emb t := by funext j e; exact embT_apply t e j
  have hsc : (fun j => k0_pay10 (F := Ideal) (embT s) (embT t) (ix2 i j)) = Spec.score (emb s) (emb t) i := by
    funext j
    rw [pay10_apply _ _ (by rw [hS]; exact hs) (by rw [hT]; exact ht), hS, hT]
  unfold aggRows mainVal Spec.agg
  rw [relu_apply, ← (sum_marks (emb s) (emb t) i fun j => featsOf x w1 w2 w3 b1 b2 b3 b j l) 20 rfl]
  pointwise
  simp only [marksAfter_apply, hsc, feats_holds x w1 w2 w3 b1 b2 b3 b _ l]

/-- The program's result is the specification's. -/
theorem kernelOut_apply (hs : Spec.RowsNonzero (emb s)) (ht : Spec.RowsNonzero (emb t)) (b : Fin 128) (i : Fin 512)
    (r : Fin 65536) (hr : (r : ℕ) = (b : ℕ) * 512 + i) (q : Fin 138) :
    kernelOut x s t w1 b1 w2 b2 w3 b3 (ix2 r q) = Spec.out (emb s) (emb t) (featsOf x w1 w2 w3 b1 b2 b3) b i q := by
  have hi := i.isLt
  unfold kernelOut Spec.out
  pointwise
  unfold asmVal
  by_cases h : (q : ℕ) < 10
  · rw [dif_pos (show ((ix2 q r : Shape.Idx S138x65536) 0 : ℕ) < 10 from h), dif_pos h, ← aggRows_holds x s t w1 w2 w3 b1 b2 b3 hs ht b i ⟨q, h⟩]
    pointwise
    congr 2
    · exact Fin.ext (show (q : ℕ) * 128 + (r : ℕ) / 512 = q * 128 + b by omega)
    · exact Fin.ext (show (r : ℕ) % 512 = i by omega)
  · rw [dif_neg (show ¬ ((ix2 q r : Shape.Idx S138x65536) 0 : ℕ) < 10 from h), dif_neg h]
    by_cases h' : (q : ℕ) < 74
    · rw [dif_pos (show ((ix2 q r : Shape.Idx S138x65536) 0 : ℕ) < 74 from h'), dif_pos h', embT_apply]
      congr 2
      exact Fin.ext (show (r : ℕ) % 512 = i by omega)
    · rw [dif_neg (show ¬ ((ix2 q r : Shape.Idx S138x65536) 0 : ℕ) < 74 from h'), dif_neg h', embT_apply]
      congr 2
      exact Fin.ext (show (r : ℕ) % 512 = i by omega)

end

end Cert.KernelIdeal.Hand

end
-- ==== Proof.Precondition.lean ====
/- What the precondition says: where its array is all ones, every row of each embedding has an entry that is not zero. -/
module

public import proofs.«01_k».proof.Proof.KernelRead
public import proofs.«01_k».proof.Proof.Gen.Pre_embeddings_nonzero
public import Idealize.ShloMosaic.Lib.Pointwise
public import Idealize.ShloMosaic.Lib.Routing.OpsOrder

@[expose] public section

set_option maxRecDepth 16384

noncomputable section

namespace Cert.Pre_embeddings_nonzero.Hand

open Idealize.ShloMosaic Cert.Pre_embeddings_nonzero

/-- Two bits whose conjunction is set are both set. -/
theorem andi_one (a b : BitVec 1) (h : IntOp.andi a b = 1#1) : a = 1#1 ∧ b = 1#1 := by
  revert a b; decide

/-- The bit of «not zero» is set only at a value that is not zero. -/
theorem nonzero_of_bit (a : EReal) (h : BitVec.ofBool (decide (a ≠ 0)) = 1#1) : a ≠ 0 := by
  rintro rfl
  simp at h

/-- `embeddings_nonzero` set at row `i`: the row of each embedding has an entry that is not zero. -/
theorem fn_apply (x : FVec Ideal S128x512x10 .f32) (s t : FVec Ideal S512x64 .f32) (w1 : FVec Ideal S512x512x3 .f32)
    (b1 : FVec Ideal S512 .f32) (w2 : FVec Ideal S512x512x3 .f32) (b2 : FVec Ideal S512 .f32)
    (w3 : FVec Ideal S512x512x3 .f32) (b3 : FVec Ideal S512 .f32) (i : Fin 512)
    (h : fn (F := Ideal) x s t w1 b1 w2 b2 w3 b3 (ix1 i) = 1#1) :
    (∃ e : Fin 64, s (ix2 i e) ≠ 0) ∧ ∃ e : Fin 64, t (ix2 i e) ≠ 0 := by
  unfold fn at h
  pointwise at h
  obtain ⟨hs, ht⟩ := andi_one _ _ h
  obtain ⟨e, -, he⟩ := (Routing.fold_ori _ _).1 hs
  obtain ⟨e', -, he'⟩ := (Routing.fold_ori _ _).1 ht
  exact ⟨⟨e, nonzero_of_bit _ he⟩, ⟨e', nonzero_of_bit _ he'⟩⟩

/-- The whole array of ones: no row of either embedding is zero. -/
theorem rows_nonzero (x : FVec Ideal S128x512x10 .f32) (s t : FVec Ideal S512x64 .f32) (w1 : FVec Ideal S512x512x3 .f32)
    (b1 : FVec Ideal S512 .f32) (w2 : FVec Ideal S512x512x3 .f32) (b2 : FVec Ideal S512 .f32)
    (w3 : FVec Ideal S512x512x3 .f32) (b3 : FVec Ideal S512 .f32)
    (h : ∀ i : Fin 512, fn (F := Ideal) x s t w1 b1 w2 b2 w3 b3 (ix1 i) = 1#1) :
    Spec.RowsNonzero (Cert.KernelIdeal.Hand.emb s) ∧ Spec.RowsNonzero (Cert.KernelIdeal.Hand.emb t) :=
  ⟨fun i => (fn_apply x s t w1 b1 w2 b2 w3 b3 i (h i)).1, fun i => (fn_apply x s t w1 b1 w2 b2 w3 b3 i (h i)).2⟩

end Cert.Pre_embeddings_nonzero.Hand

end
-- ==== Proof.RefScore.lean ====
/- The reference's scores on the extended reals, and the neighbours its selection returns. -/
module

public import proofs.«01_k».proof.Proof.Gen.ReferenceIdeal.Read
public import proofs.«01_k».proof.Proof.Spec
public import proofs.«01_k».proof.Proof.Word
public import Idealize.ShloMosaic.Lib.Pointwise

@[expose] public section

set_option maxRecDepth 16384

noncomputable section

namespace Cert.ReferenceIdeal.Hand

open Idealize.ShloMosaic Cert.ReferenceIdeal Cert.ReferenceIdeal.Gen Cert.ReferenceIdeal.Read

/-- The first embedding's rows divided by their norms. -/
theorem v77_apply (s : FVec Ideal S512x64 .f32) (j : Fin 512) (e : Fin 64) :
    val_main_v77 (F := Ideal) s (ix2 j e) = Spec.normed (fun i e => s (ix2 i e)) j e := by
  unfold val_main_v77 val_main_v76 val_main_v75 val_main_call7_v2 val_main_call7_v1 val_main_call7_cst val_main_call7_v0
  pointwise
  rfl

theorem v80_eq (t : FVec Ideal S512x64 .f32) : val_main_v80 (F := Ideal) t = val_main_v77 (F := Ideal) t := rfl

/-- The transposed scores. -/
theorem v90_apply (s t : FVec Ideal S512x64 .f32) (i j : Fin 512) :
    val_main_v90 (F := Ideal) s t (ix2 i j) = Spec.score (fun i e => s (ix2 i e)) (fun i e => t (ix2 i e)) i j := by
  unfold val_main_v90 val_main_v89 val_main_v88 val_main_v87 val_main_v86 val_main_c_4 val_main_v85 val_main_v84 val_main_call10_v1 val_main_call10_v0 val_main_cst_5 val_main_v83 val_main_call9_v0 val_main_call9_cst val_main_v82 val_main_v81
  pointwise
  have hc : IntOp.cmpi CmpIPredicate.eq (IntOp.addi (BitVec.ofNat 32 (j : ℕ)) 0#32) (BitVec.ofNat 32 (i : ℕ)) = if j = i then 1#1 else 0#1 := by
    unfold IntOp.addi
    rw [BitVec.add_zero, Word.cmpi_eq_col]
  have hb : id (constant S_ FTy.f32 4286578688#32 : FVec Ideal S_ .f32) ix0 = (⊥ : EReal) := Word.ofBits_neg_inf
  rw [hc, hb, v80_eq]
  simp only [v77_apply]
  unfold Spec.score
  by_cases h : j = i
  · rw [if_pos h, if_pos h]; rfl
  · rw [if_neg h, if_neg h]
    show max _ _ = _
    refine congrArg (max · 0) (Finset.sum_congr rfl fun e _ => mul_comm _ _)

/-- The positions of the twenty greatest entries of every row are its first twenty picks. -/
theorem topK_apply (x : FVec Ideal S512x512 .f32) (i : Fin 512) (h : 20 ≤ (Finset.univ.filter fun j => x (ix2 i j) ≠ (⊥ : EReal)).card)
    (k : Fin 20) : (Host.topK S512x20 1 (FloatOps.cmpfTotal (F := Ideal) (φ := .f32) .gt) x sliceFits_S512x512_S512x20).2 (ix2 i k)
      = BitVec.ofNat 32 (Rounds.pk (fun j => x (ix2 i j)) k : ℕ) := by
  have hlt : ∀ a b : EReal, (FloatOps.cmpfTotal (F := Ideal) (φ := .f32) CmpDirection.gt a b == 1#1) = decide (b < a) := fun a b => by
    show (Ideal.cmp CmpFPredicate.ogt a b == 1#1) = _
    unfold Ideal.cmp
    by_cases h : b < a <;> simp [h]
  unfold Host.topK Host.sort2
  pointwise
  have hal : ∀ q : Fin 512, (Shape.Idx.along (ix2 i ⟨(k : ℕ), by have := k.isLt; omega⟩ : Shape.Idx S512x512) 1 q) = ix2 i q := fun q => by
    funext a
    fin_cases a <;> rfl
  have hf : ∀ f g : Fin 512 → Fin 512 → Bool, f = g → ∀ p : Fin 512,
      BitVec.ofNat 32 ((Shape.Idx.along (ix2 i p : Shape.Idx S512x512) 1 (sortedFrom f p) : Shape.Idx S512x512) 1 : ℕ)
        = BitVec.ofNat 32 (sortedFrom g p : ℕ) := by
    rintro f _ rfl p
    unfold Shape.Idx.along
    rw [Function.update_self]
    rfl
  rw [← Rounds.sortedFrom_eq_pk _ h (by omega) k]
  refine hf _ _ (funext₂ fun a b => ?_) ⟨(k : ℕ), by have := k.isLt; omega⟩
  rw [hlt, hal, hal]

/-- The selected indices are the neighbours. -/
theorem indices_apply (s t : FVec Ideal S512x64 .f32) (i : Fin 512) (k : Fin 20) :
    val_main_indices (F := Ideal) s t (ix2 i k) = BitVec.ofNat 32 (Spec.nbr (fun i e => s (ix2 i e)) (fun i e => t (ix2 i e)) i k : ℕ) := by
  have hr : (fun j => val_main_v90 (F := Ideal) s t (ix2 i j)) = Spec.score (fun i e => s (ix2 i e)) (fun i e => t (ix2 i e)) i :=
    funext fun j => v90_apply s t i j
  unfold val_main_indices Spec.nbr
  rw [topK_apply _ _ (by rw [funext_iff] at hr; simp only [hr]; exact Spec.card_score _ _ i), hr]

end Cert.ReferenceIdeal.Hand

end
-- ==== Proof.RefIndex.lean ====
/- The reference's edge list: edge `b * 10240 + i * 20 + k` goes from the `k`-th neighbour of node `i` to node `i`, both
   in batch entry `b`. -/
module

public import proofs.«01_k».proof.Proof.RefScore
public import Idealize.ShloMosaic.Lib.Routing.OpsPair
public import Idealize.ShloMosaic.Lib.Routing.OpsOrder
public import Idealize.ShloMosaic.Lib.Routing.Ops

@[expose] public section

set_option maxRecDepth 16384

noncomputable section

namespace Cert.ReferenceIdeal.Hand

open Idealize.ShloMosaic Cert.ReferenceIdeal Cert.ReferenceIdeal.Gen Cert.ReferenceIdeal.Read

/-- The place of an edge in the list. -/
def edge (b : Fin 128) (i : Fin 512) (k : Fin 20) : Fin 1310720 :=
  ⟨(b : ℕ) * 10240 + ((i : ℕ) * 20 + k), by have := b.isLt; have := i.isLt; have := k.isLt; omega⟩

/-- The row of node `i` in batch entry `b`. -/
def nodeRow (b : Fin 128) (i : Fin 512) : Fin 65536 := ⟨(b : ℕ) * 512 + i, by have := b.isLt; have := i.isLt; omega⟩

/-- An embedding array's rows. -/
abbrev emb (s : FVec Ideal S512x64 .f32) : Fin 512 → Fin 64 → EReal := fun i e => s (ix2 i e)

/-- A node's word and 512 times its batch entry's add up to its row's. -/
theorem row_word (b : Fin 128) (i : Fin 512) :
    IntOp.addi (BitVec.ofNat 32 (i : ℕ)) (IntOp.muli (BitVec.ofNat 32 (b : ℕ)) 512#32) = BitVec.ofNat 32 (nodeRow b i : ℕ) := by
  show BitVec.ofNat 32 (i : ℕ) + BitVec.ofNat 32 (b : ℕ) * BitVec.ofNat 32 512 = BitVec.ofNat 32 ((b : ℕ) * 512 + i)
  rw [← BitVec.ofNat_mul, ← BitVec.ofNat_add, add_comm]

/-- The sources of the edges. -/
theorem v105_apply (s t : FVec Ideal S512x64 .f32) (b : Fin 128) (i : Fin 512) (k : Fin 20) :
    val_main_v105 (F := Ideal) s t (ix1 (edge b i k)) = BitVec.ofNat 32 (nodeRow b (Spec.nbr (emb s) (emb t) i k) : ℕ) := by
  have hb := b.isLt
  have hi := i.isLt
  have hk := k.isLt
  unfold val_main_v105 val_main_v104 val_main_v103 val_main_v102 val_main_v101 val_main_v100 val_main_c_6 val_main_v99 val_main_v98 val_main_v97 val_main_v96 val_main_v95 val_main_v91
  pointwise
  rw [show (⟨(edge b i k : ℕ) % 10240 / 20, _⟩ : Fin 512) = i from Fin.ext (show ((b : ℕ) * 10240 + ((i : ℕ) * 20 + k)) % 10240 / 20 = i by omega),
    show (⟨(edge b i k : ℕ) % 10240 % 20, _⟩ : Fin 20) = k from Fin.ext (show ((b : ℕ) * 10240 + ((i : ℕ) * 20 + k)) % 10240 % 20 = k by omega),
    show (edge b i k : ℕ) / 10240 = b from (show ((b : ℕ) * 10240 + ((i : ℕ) * 20 + k)) / 10240 = b by omega),
    indices_apply, row_word]

/-- The targets of the edges. -/
theorem v109_apply (b : Fin 128) (i : Fin 512) (k : Fin 20) :
    val_main_v109 (F := Ideal) (ix1 (edge b i k)) = BitVec.ofNat 32 (nodeRow b i : ℕ) := by
  have hb := b.isLt
  have hi := i.isLt
  have hk := k.isLt
  unfold val_main_v109 val_main_v108 val_main_v107 val_main_v106 val_main_v101 val_main_v100 val_main_c_6 val_main_v99 val_main_v98 val_main_v97 val_main_v94 val_main_v93 val_main_v92
  pointwise
  rw [show (edge b i k : ℕ) % 10240 / 20 = i from (show ((b : ℕ) * 10240 + ((i : ℕ) * 20 + k)) % 10240 / 20 = i by omega),
    show (edge b i k : ℕ) / 10240 = b from (show ((b : ℕ) * 10240 + ((i : ℕ) * 20 + k)) / 10240 = b by omega), row_word]

/-- Numbers of rows are not negative as words, so the wrap of negative indices leaves them. -/
theorem wrap_row (r : Fin 65536) (a : BitVec 32) :
    Scalar.select (IntOp.cmpi .slt (BitVec.ofNat 32 (r : ℕ)) 0#32) a (BitVec.ofNat 32 (r : ℕ)) = BitVec.ofNat 32 (r : ℕ) := by
  have := r.isLt
  exact Routing.wrap_of_lt _ _ (by rw [BitVec.toNat_ofNat]; omega)

/-- Numbers of rows lie between 0 and 65535 as words. -/
theorem row_in_range (r : Fin 65536) :
    IntOp.andi (IntOp.cmpi .sge (BitVec.ofNat 32 (r : ℕ)) 0#32) (IntOp.cmpi .sle (BitVec.ofNat 32 (r : ℕ)) 65535#32) = 1#1 := by
  have hr := r.isLt
  have hi : (BitVec.ofNat 32 (r : ℕ)).toInt = (r : ℕ) := by
    rw [BitVec.toInt_eq_toNat_of_lt (by rw [BitVec.toNat_ofNat]; omega), BitVec.toNat_ofNat, Nat.mod_eq_of_lt (by omega)]
  have h1 : (0#32).sle (BitVec.ofNat 32 (r : ℕ)) = true := by
    rw [BitVec.sle_iff_toInt_le, hi]; simp
  have h2 : (BitVec.ofNat 32 (r : ℕ)).sle 65535#32 = true := by
    rw [BitVec.sle_iff_toInt_le, hi, show (65535#32).toInt = 65535 by decide]; omega
  simp [IntOp.cmpi, IntOp.andi, h1, h2]

/-- The sources after the wrap of negative indices. -/
theorem v5_apply (s t : FVec Ideal S512x64 .f32) (b : Fin 128) (i : Fin 512) (k : Fin 20) :
    val_main_call11_v5 (F := Ideal) s t (ix2 (edge b i k) 0) = BitVec.ofNat 32 (nodeRow b (Spec.nbr (emb s) (emb t) i k) : ℕ) := by
  unfold val_main_call11_v5 val_main_call11_v4 val_main_call11_v3 val_main_call11_v2 val_main_call11_v1 val_main_call11_v0 val_main_call11_c
  pointwise
  rw [v105_apply]
  exact wrap_row _ _

/-- The targets after the wrap of negative indices. -/
theorem v117_apply (b : Fin 128) (i : Fin 512) (k : Fin 20) :
    val_main_v117 (F := Ideal) (ix2 (edge b i k) 0) = BitVec.ofNat 32 (nodeRow b i : ℕ) := by
  unfold val_main_v117 val_main_v116 val_main_v115 val_main_v114 val_main_v113 val_main_v112 val_main_c_8
  pointwise
  rw [v109_apply]
  exact wrap_row _ _

/-- Every source is within range. -/
theorem v12_apply (s t : FVec Ideal S512x64 .f32) (b : Fin 128) (i : Fin 512) (k : Fin 20) :
    val_main_call11_v12 (F := Ideal) s t (ix1 (edge b i k)) = 1#1 := by
  unfold val_main_call11_v12 val_main_call11_v11 val_main_call11_v10 val_main_call11_v9 val_main_call11_v8 val_main_call11_v7 val_main_call11_v6 val_main_call11_c_1 val_main_call11_c_2 val_main_call11_c_3
  pointwise
  rw [Finset.univ_unique, Finset.fold_singleton, show (default : Fin 1) = 0 from rfl, v5_apply]
  rw [row_in_range]
  rfl

end Cert.ReferenceIdeal.Hand

end
-- ==== Proof.RefConv.lean ====
/- The reference's convolution layers on the extended reals: the array after them holds the specification's features. -/
module

public import proofs.«01_k».proof.Proof.Gen.ReferenceIdeal.Read
public import proofs.«01_k».proof.Proof.Spec
public import Idealize.ShloMosaic.Lib.Pointwise

@[expose] public section

set_option maxRecDepth 16384

noncomputable section

namespace Cert.ReferenceIdeal.Hand

open Idealize.ShloMosaic Cert.ReferenceIdeal Cert.ReferenceIdeal.Gen Cert.ReferenceIdeal.Read

/-! ## The layers' terms -/

section Terms

variable {F : FTy → Type} [FloatOps F]

/-- The zero array. -/
def zeros : FVec F S128x512x10 .f32 := broadcastInDim S128x512x10 ![] bcast_S_S128x512x10 (constant S_ .f32 0x00000000#32)

/-- One tap's product over the channels. -/
def tap (Y : FVec F S128x512x10 .f32) (w : FVec F S512x512x1 .f32) : FVec F S128x512x10 .f32 :=
  transpose S128x512x10 [0, 2, 1] (Host.dotGeneral dot_S128x512x10_S512x512_S128x10x512_1_1_02_0_n_n none Y
    (shapeCast S512x512 w shapeCasts_S512x512x1_S512x512)) transposes_S128x10x512_S128x512x10_0_2_1

/-- A layer from its three shifted inputs, the earliest first. -/
def layer (A B C : FVec F S128x512x10 .f32) (W : FVec F S512x512x3 .f32) (β : FVec F S512 .f32) : FVec F S128x512x10 .f32 :=
  maximumf (addf (addf (addf (addf zeros
    (tap A (extractStridedSlice S512x512x1 ![0, 0, 0] W slices_S512x512x3_S512x512x1_0_0_0)))
    (tap B (extractStridedSlice S512x512x1 ![0, 0, 1] W slices_S512x512x3_S512x512x1_0_0_1)))
    (tap C (extractStridedSlice S512x512x1 ![0, 0, 2] W slices_S512x512x3_S512x512x1_0_0_2)))
    (broadcastInDim S128x512x10 ![0, 1, 2] bcast_S1x512x1_S128x512x10_0_1_2 (broadcastInDim S1x512x1 ![1] bcast_S512_S1x512x1_1 β))) zeros

/-- The features with 2 zero time steps before the first. -/
def padded1 (X : FVec F S128x512x10 .f32) : FVec F S128x512x12 .f32 :=
  pad S128x512x12 ![0, 0, 2] ![0, 0, 0] ![0, 0, 0] X (sitofp .f32 (constantI S_ 32 0#32)) pads_S128x512x10_S128x512x12_000_000_200 h_S_

/-- The features with 4 zero time steps before the first. -/
def padded2 (X : FVec F S128x512x10 .f32) : FVec F S128x512x14 .f32 :=
  pad S128x512x14 ![0, 0, 4] ![0, 0, 0] ![0, 0, 0] X (sitofp .f32 (constantI S_ 32 0#32)) pads_S128x512x10_S128x512x14_000_000_400 h_S_

/-- The features with 8 zero time steps before the first. -/
def padded4 (X : FVec F S128x512x10 .f32) : FVec F S128x512x18 .f32 :=
  pad S128x512x18 ![0, 0, 8] ![0, 0, 0] ![0, 0, 0] X (sitofp .f32 (constantI S_ 32 0#32)) pads_S128x512x10_S128x512x18_000_000_800 h_S_

/-- The layer of dilation 1. -/
def layer1 (X : FVec F S128x512x10 .f32) (W : FVec F S512x512x3 .f32) (β : FVec F S512 .f32) : FVec F S128x512x10 .f32 :=
  layer (extractStridedSlice S128x512x10 ![0, 0, 0] (padded1 X) slices_S128x512x12_S128x512x10_0_0_0)
    (extractStridedSlice S128x512x10 ![0, 0, 1] (padded1 X) slices_S128x512x12_S128x512x10_0_0_1)
    (extractStridedSlice S128x512x10 ![0, 0, 2] (padded1 X) slices_S128x512x12_S128x512x10_0_0_2) W β

/-- The layer of dilation 2. -/
def layer2 (X : FVec F S128x512x10 .f32) (W : FVec F S512x512x3 .f32) (β : FVec F S512 .f32) : FVec F S128x512x10 .f32 :=
  layer (extractStridedSlice S128x512x10 ![0, 0, 0] (padded2 X) slices_S128x512x14_S128x512x10_0_0_0)
    (extractStridedSlice S128x512x10 ![0, 0, 2] (padded2 X) slices_S128x512x14_S128x512x10_0_0_2)
    (extractStridedSlice S128x512x10 ![0, 0, 4] (padded2 X) slices_S128x512x14_S128x512x10_0_0_4) W β

/-- The layer of dilation 4. -/
def layer4 (X : FVec F S128x512x10 .f32) (W : FVec F S512x512x3 .f32) (β : FVec F S512 .f32) : FVec F S128x512x10 .f32 :=
  layer (extractStridedSlice S128x512x10 ![0, 0, 0] (padded4 X) slices_S128x512x18_S128x512x10_0_0_0)
    (extractStridedSlice S128x512x10 ![0, 0, 4] (padded4 X) slices_S128x512x18_S128x512x10_0_0_4)
    (extractStridedSlice S128x512x10 ![0, 0, 8] (padded4 X) slices_S128x512x18_S128x512x10_0_0_8) W β

variable (x0 : FVec F S128x512x10 .f32) (x3 : FVec F S512x512x3 .f32) (x4 : FVec F S512 .f32) (x5 : FVec F S512x512x3 .f32)
  (x6 : FVec F S512 .f32) (x7 : FVec F S512x512x3 .f32) (x8 : FVec F S512 .f32)

theorem v23_eq : val_main_v23 x0 x3 x4 = layer1 x0 x3 x4 := rfl
theorem v47_eq : val_main_v47 x0 x3 x4 x5 x6 = layer2 (val_main_v23 x0 x3 x4) x5 x6 := rfl
theorem v71_eq : val_main_v71 x0 x3 x4 x5 x6 x7 x8 = layer4 (val_main_v47 x0 x3 x4 x5 x6) x7 x8 := rfl
theorem v73_eq : val_main_v73 x0 x3 x4 x5 x6 x7 x8 = maximumf (addf (val_main_v71 x0 x3 x4 x5 x6 x7 x8) x0) zeros := rfl

end Terms

/-! ## Their entries -/

/-- An array holds features. -/
def Holds (X : FVec Ideal S128x512x10 .f32) (V : Spec.Feats) : Prop := ∀ b n l, X (ix3 b n l) = V b n l

theorem zeros_apply (b : Fin 128) (n : Fin 512) (l : Fin 10) : zeros (F := Ideal) (ix3 b n l) = (0 : EReal) := by
  unfold zeros
  pointwise

theorem sitofp_zero : (FloatOps.sitofp FTy.f32 0#32 : Ideal .f32) = (0 : EReal) := by
  show ((((0#32 : BitVec 32).toInt : ℤ) : ℝ) : EReal) = 0
  simp

/-- An entry of a tap's product. -/
theorem tap_apply (Y : FVec Ideal S128x512x10 .f32) (w : FVec Ideal S512x512x1 .f32) (b : Fin 128) (n : Fin 512) (l : Fin 10) :
    tap Y w (ix3 b n l) = ∑ c : Fin 512, Y (ix3 b c l) * w (ix3 n c 0) := by
  unfold tap
  pointwise

/-- The features `2` time steps earlier. -/
theorem slice1_0 (X : FVec Ideal S128x512x10 .f32) (V : Spec.Feats) (h : Holds X V) :
    Holds (extractStridedSlice S128x512x10 ![0, 0, 0] (padded1 X) slices_S128x512x12_S128x512x10_0_0_0) (Spec.earlier 2 V) := by
  intro b n l
  have hl := l.isLt
  unfold padded1 Spec.earlier
  pointwise
  by_cases e : 2 ≤ (l : ℕ)
  · rw [dif_pos (show 2 ≤ (l : ℕ) ∧ (l : ℕ) - 2 < 10 by omega), if_pos e, ← h]
  · rw [dif_neg (show ¬ (2 ≤ (l : ℕ) ∧ (l : ℕ) - 2 < 10) by omega), if_neg e, sitofp_zero]

/-- The features `1` time steps earlier. -/
theorem slice1_1 (X : FVec Ideal S128x512x10 .f32) (V : Spec.Feats) (h : Holds X V) :
    Holds (extractStridedSlice S128x512x10 ![0, 0, 1] (padded1 X) slices_S128x512x12_S128x512x10_0_0_1) (Spec.earlier 1 V) := by
  intro b n l
  have hl := l.isLt
  unfold padded1 Spec.earlier
  pointwise
  by_cases e : 1 ≤ (l : ℕ)
  · rw [dif_pos (show 2 ≤ 1 + (l : ℕ) ∧ 1 + (l : ℕ) - 2 < 10 by omega), if_pos e, ← h]
    congr 2; ext; show 1 + (l : ℕ) - 2 = (l : ℕ) - 1; omega
  · rw [dif_neg (show ¬ (2 ≤ 1 + (l : ℕ) ∧ 1 + (l : ℕ) - 2 < 10) by omega), if_neg e, sitofp_zero]

/-- The last tap reads the features themselves. -/
theorem slice1_2 (X : FVec Ideal S128x512x10 .f32) (V : Spec.Feats) (h : Holds X V) :
    Holds (extractStridedSlice S128x512x10 ![0, 0, 2] (padded1 X) slices_S128x512x12_S128x512x10_0_0_2) V := by
  intro b n l
  have hl := l.isLt
  unfold padded1
  pointwise
  exact h b n l

/-- The features `4` time steps earlier. -/
theorem slice2_0 (X : FVec Ideal S128x512x10 .f32) (V : Spec.Feats) (h : Holds X V) :
    Holds (extractStridedSlice S128x512x10 ![0, 0, 0] (padded2 X) slices_S128x512x14_S128x512x10_0_0_0) (Spec.earlier 4 V) := by
  intro b n l
  have hl := l.isLt
  unfold padded2 Spec.earlier
  pointwise
  by_cases e : 4 ≤ (l : ℕ)
  · rw [dif_pos (show 4 ≤ (l : ℕ) ∧ (l : ℕ) - 4 < 10 by omega), if_pos e, ← h]
  · rw [dif_neg (show ¬ (4 ≤ (l : ℕ) ∧ (l : ℕ) - 4 < 10) by omega), if_neg e, sitofp_zero]

/-- The features `2` time steps earlier. -/
theorem slice2_1 (X : FVec Ideal S128x512x10 .f32) (V : Spec.Feats) (h : Holds X V) :
    Holds (extractStridedSlice S128x512x10 ![0, 0, 2] (padded2 X) slices_S128x512x14_S128x512x10_0_0_2) (Spec.earlier 2 V) := by
  intro b n l
  have hl := l.isLt
  unfold padded2 Spec.earlier
  pointwise
  by_cases e : 2 ≤ (l : ℕ)
  · rw [dif_pos (show 4 ≤ 2 + (l : ℕ) ∧ 2 + (l : ℕ) - 4 < 10 by omega), if_pos e, ← h]
    congr 2; ext; show 2 + (l : ℕ) - 4 = (l : ℕ) - 2; omega
  · rw [dif_neg (show ¬ (4 ≤ 2 + (l : ℕ) ∧ 2 + (l : ℕ) - 4 < 10) by omega), if_neg e, sitofp_zero]

/-- The last tap reads the features themselves. -/
theorem slice2_2 (X : FVec Ideal S128x512x10 .f32) (V : Spec.Feats) (h : Holds X V) :
    Holds (extractStridedSlice S128x512x10 ![0, 0, 4] (padded2 X) slices_S128x512x14_S128x512x10_0_0_4) V := by
  intro b n l
  have hl := l.isLt
  unfold padded2
  pointwise
  exact h b n l

/-- The features `8` time steps earlier. -/
theorem slice4_0 (X : FVec Ideal S128x512x10 .f32) (V : Spec.Feats) (h : Holds X V) :
    Holds (extractStridedSlice S128x512x10 ![0, 0, 0] (padded4 X) slices_S128x512x18_S128x512x10_0_0_0) (Spec.earlier 8 V) := by
  intro b n l
  have hl := l.isLt
  unfold padded4 Spec.earlier
  pointwise
  by_cases e : 8 ≤ (l : ℕ)
  · rw [dif_pos (show 8 ≤ (l : ℕ) ∧ (l : ℕ) - 8 < 10 by omega), if_pos e, ← h]
  · rw [dif_neg (show ¬ (8 ≤ (l : ℕ) ∧ (l : ℕ) - 8 < 10) by omega), if_neg e, sitofp_zero]

/-- The features `4` time steps earlier. -/
theorem slice4_1 (X : FVec Ideal S128x512x10 .f32) (V : Spec.Feats) (h : Holds X V) :
    Holds (extractStridedSlice S128x512x10 ![0, 0, 4] (padded4 X) slices_S128x512x18_S128x512x10_0_0_4) (Spec.earlier 4 V) := by
  intro b n l
  have hl := l.isLt
  unfold padded4 Spec.earlier
  pointwise
  by_cases e : 4 ≤ (l : ℕ)
  · rw [dif_pos (show 8 ≤ 4 + (l : ℕ) ∧ 4 + (l : ℕ) - 8 < 10 by omega), if_pos e, ← h]
    congr 2; ext; show 4 + (l : ℕ) - 8 = (l : ℕ) - 4; omega
  · rw [dif_neg (show ¬ (8 ≤ 4 + (l : ℕ) ∧ 4 + (l : ℕ) - 8 < 10) by omega), if_neg e, sitofp_zero]

/-- The last tap reads the features themselves. -/
theorem slice4_2 (X : FVec Ideal S128x512x10 .f32) (V : Spec.Feats) (h : Holds X V) :
    Holds (extractStridedSlice S128x512x10 ![0, 0, 8] (padded4 X) slices_S128x512x18_S128x512x10_0_0_8) V := by
  intro b n l
  have hl := l.isLt
  unfold padded4
  pointwise
  exact h b n l

theorem layer_holds {d : ℕ} (A B C : FVec Ideal S128x512x10 .f32) (V : Spec.Feats) (hA : Holds A (Spec.earlier (2 * d) V))
    (hB : Holds B (Spec.earlier d V)) (hC : Holds C V) (W : FVec Ideal S512x512x3 .f32) (β : FVec Ideal S512 .f32) :
    Holds (layer A B C W β) (Spec.conv d (fun n c k => W (ix3 n c k)) (fun n => β (ix1 n)) V) := by
  intro b n l
  unfold layer Spec.conv
  pointwise
  simp only [zeros_apply, tap_apply]
  have hw : ∀ (c : Fin 512), extractStridedSlice S512x512x1 ![0, 0, 0] W slices_S512x512x3_S512x512x1_0_0_0 (ix3 n c 0) = W (ix3 n c 0) := by
    intro c; pointwise
  have hw' : ∀ (c : Fin 512), extractStridedSlice S512x512x1 ![0, 0, 1] W slices_S512x512x3_S512x512x1_0_0_1 (ix3 n c 0) = W (ix3 n c 1) := by
    intro c; pointwise
  have hw'' : ∀ (c : Fin 512), extractStridedSlice S512x512x1 ![0, 0, 2] W slices_S512x512x3_S512x512x1_0_0_2 (ix3 n c 0) = W (ix3 n c 2) := by
    intro c; pointwise
  simp only [hw, hw', hw'', hA b _ l, hB b _ l, hC b _ l]
  refine congrArg (max · 0) (congrArg (· + β (ix1 n)) ?_)
  rw [zero_add]
  abel

/-- The array after the three layers and the residual holds the specification's features. -/
theorem v73_holds (x0 : FVec Ideal S128x512x10 .f32) (x3 : FVec Ideal S512x512x3 .f32) (x4 : FVec Ideal S512 .f32)
    (x5 : FVec Ideal S512x512x3 .f32) (x6 : FVec Ideal S512 .f32) (x7 : FVec Ideal S512x512x3 .f32) (x8 : FVec Ideal S512 .f32) :
    Holds (val_main_v73 (F := Ideal) x0 x3 x4 x5 x6 x7 x8)
      (Spec.feats (fun n c k => x3 (ix3 n c k)) (fun n c k => x5 (ix3 n c k)) (fun n c k => x7 (ix3 n c k))
        (fun n => x4 (ix1 n)) (fun n => x6 (ix1 n)) (fun n => x8 (ix1 n)) fun b n l => x0 (ix3 b n l)) := by
  have h0 : Holds x0 fun b n l => x0 (ix3 b n l) := fun _ _ _ => rfl
  have h1 := layer_holds (d := 1) _ _ _ _ (slice1_0 _ _ h0) (slice1_1 _ _ h0) (slice1_2 _ _ h0) x3 x4
  have h2 := layer_holds (d := 2) _ _ _ _ (slice2_0 _ _ h1) (slice2_1 _ _ h1) (slice2_2 _ _ h1) x5 x6
  have h4 := layer_holds (d := 4) _ _ _ _ (slice4_0 _ _ h2) (slice4_1 _ _ h2) (slice4_2 _ _ h2) x7 x8
  intro b n l
  rw [v73_eq, v71_eq, v47_eq, v23_eq]
  exact congrArg₂ max (congrArg₂ (· + ·) (h4 b n l) rfl) (zeros_apply b n l)

end Cert.ReferenceIdeal.Hand

end
-- ==== Proof.RefScatter.lean ====
/- The reference's message passing: the gather reads every edge's source, the scatter adds it at the edge's target, so
   a node's row is the sum of its neighbours' features. -/
module

public import proofs.«01_k».proof.Proof.RefIndex
public import proofs.«01_k».proof.Proof.RefConv

@[expose] public section

set_option maxRecDepth 16384

noncomputable section

namespace Cert.ReferenceIdeal.Hand

open Idealize.ShloMosaic Cert.ReferenceIdeal Cert.ReferenceIdeal.Gen Cert.ReferenceIdeal.Read

/-- Row `p` of the updates lands at row `r`, the column kept, exactly when its index word is `r`. -/
theorem lands_row (idx : IVec S1310720x1 32) (p : Fin 1310720) (l' : Fin 10) (r : Fin 65536) (l : Fin 10) :
    scatter_S65536x10_S1310720x1_S1310720x10_1_0_0_1.resultIdx? (ix2 p l') idx = some (ix2 r l)
      ↔ (idx (ix2 p 0)).toInt = (r : ℕ) ∧ l' = l := by
  have hs0 : scatter_S65536x10_S1310720x1_S1310720x10_1_0_0_1.start (ix2 p l') idx 0 = (idx (ix2 p 0)).toInt := by
    unfold ScatterDims.start
    rw [dif_pos (show (0 : Fin 2) ∈ scatter_S65536x10_S1310720x1_S1310720x10_1_0_0_1.scatterDimsToOperandDims from List.mem_singleton.mpr rfl)]
    refine congrArg (fun y => (idx y).toInt) (funext fun a => Fin.ext ?_)
    match a with
    | ⟨0, _⟩ => rfl
    | ⟨1, _⟩ => rfl
  have hs1 : scatter_S65536x10_S1310720x1_S1310720x10_1_0_0_1.start (ix2 p l') idx 1 = 0 := by
    unfold ScatterDims.start
    rw [dif_neg (show (1 : Fin 2) ∉ scatter_S65536x10_S1310720x1_S1310720x10_1_0_0_1.scatterDimsToOperandDims by decide)]
  have hw0 : scatter_S65536x10_S1310720x1_S1310720x10_1_0_0_1.window (ix2 p l') 0 = 0 := by
    unfold ScatterDims.window
    rw [dif_neg (by decide)]
  have hw1 : scatter_S65536x10_S1310720x1_S1310720x10_1_0_0_1.window (ix2 p l') 1 = l' := by
    unfold ScatterDims.window
    rw [dif_pos (by decide)]
    rfl
  rw [Routing.resultIdx?_eq_some]
  constructor
  · intro h
    have h0 := h 0
    have h1 := h 1
    rw [hs0, hw0] at h0
    rw [hs1, hw1] at h1
    have h0' : (idx (ix2 p 0)).toInt + ((0 : ℕ) : ℤ) = ((r : ℕ) : ℤ) := h0
    have h1' : 0 + ((l' : ℕ) : ℤ) = ((l : ℕ) : ℤ) := h1
    exact ⟨by omega, Fin.ext (by omega)⟩
  · rintro ⟨h0, rfl⟩ a
    match a with
    | ⟨0, _⟩ =>
      show _ = ((r : ℕ) : ℤ)
      rw [← h0]
      exact (congrArg₂ (fun (x : ℤ) (y : ℕ) => x + (y : ℤ)) hs0 hw0).trans (add_zero _)
    | ⟨1, _⟩ => exact (congrArg₂ (fun (x : ℤ) (y : ℕ) => x + (y : ℤ)) hs1 hw1).trans (zero_add _)

/-- A row's number as a signed word. -/
theorem row_toInt (r : Fin 65536) : (BitVec.ofNat 32 (r : ℕ)).toInt = (r : ℕ) := by
  have hr := r.isLt
  rw [BitVec.toInt_eq_toNat_of_lt (by rw [BitVec.toNat_ofNat]; omega), BitVec.toNat_ofNat, Nat.mod_eq_of_lt (by omega)]

/-- Every place of the list is some edge's. -/
theorem exists_edge (p : Fin 1310720) : ∃ b i k, p = edge b i k := by
  have hp := p.isLt
  refine ⟨⟨(p : ℕ) / 10240, by omega⟩, ⟨(p : ℕ) % 10240 / 20, by omega⟩, ⟨(p : ℕ) % 10240 % 20, by omega⟩, Fin.ext ?_⟩
  show (p : ℕ) = (p : ℕ) / 10240 * 10240 + ((p : ℕ) % 10240 / 20 * 20 + (p : ℕ) % 10240 % 20)
  omega

theorem nodeRow_inj {b b' : Fin 128} {i i' : Fin 512} (h : nodeRow b i = nodeRow b' i') : b = b' ∧ i = i' := by
  have h' : (b : ℕ) * 512 + i = b' * 512 + i' := congrArg Fin.val h
  have := i.isLt
  have := i'.isLt
  exact ⟨Fin.ext (by omega), Fin.ext (by omega)⟩

/-- The accumulating scatter at a node's row: the updates of the node's twenty edges, added. -/
theorem scatter_apply (x : FVec Ideal S65536x10 .f32) (upd : FVec Ideal S1310720x10 .f32) (b : Fin 128) (i : Fin 512) (l : Fin 10) :
    Host.scatterAdd scatter_S65536x10_S1310720x1_S1310720x10_1_0_0_1 x (val_main_v117 (F := Ideal)) upd (ix2 (nodeRow b i) l)
      = x (ix2 (nodeRow b i) l) + ∑ k : Fin 20, upd (ix2 (edge b i k) l) := by
  unfold Host.scatterAdd
  rw [Ideal.hostScatterAdd_def]
  unfold Ideal.hostScatterAdd
  refine congrArg (x (ix2 (nodeRow b i) l) + ·) ?_
  have hl : ∀ b' i' k l', scatter_S65536x10_S1310720x1_S1310720x10_1_0_0_1.resultIdx? (ix2 (edge b' i' k) l') (val_main_v117 (F := Ideal))
      = some (ix2 (nodeRow b i) l) ↔ (b' = b ∧ i' = i) ∧ l' = l := fun b' i' k l' => by
    rw [lands_row, v117_apply, row_toInt]
    refine and_congr_left fun _ => ⟨fun h => nodeRow_inj (Fin.ext (by exact_mod_cast h)), fun ⟨h, h'⟩ => by rw [h, h']⟩
  symm
  refine Finset.sum_bij (fun k _ => ix2 (edge b i k) l) (fun k _ => ?_) (fun k _ k' _ h => ?_) (fun j hj => ?_) (fun k _ => rfl)
  · exact Finset.mem_filter.mpr ⟨Finset.mem_univ _, (hl _ _ _ _).mpr ⟨⟨rfl, rfl⟩, rfl⟩⟩
  · have h' : (b : ℕ) * 10240 + ((i : ℕ) * 20 + k) = b * 10240 + (i * 20 + k') := congrArg (fun y : S1310720x10.Idx => (y 0 : ℕ)) h
    exact Fin.ext (by omega)
  · have hj' := (Finset.mem_filter.mp hj).2
    idx_vars j
    obtain ⟨b', i', k, rfl⟩ := exists_edge j0
    obtain ⟨⟨rfl, rfl⟩, rfl⟩ := (hl _ _ _ _).mp hj'
    exact ⟨k, Finset.mem_univ _, rfl⟩

section

variable (x0 : FVec Ideal S128x512x10 .f32) (s t : FVec Ideal S512x64 .f32) (x3 : FVec Ideal S512x512x3 .f32) (x4 : FVec Ideal S512 .f32)
  (x5 : FVec Ideal S512x512x3 .f32) (x6 : FVec Ideal S512 .f32) (x7 : FVec Ideal S512x512x3 .f32) (x8 : FVec Ideal S512 .f32)

/-- The features over the argument arrays. -/
abbrev featsOf : Spec.Feats :=
  Spec.feats (fun n c k => x3 (ix3 n c k)) (fun n c k => x5 (ix3 n c k)) (fun n c k => x7 (ix3 n c k))
    (fun n => x4 (ix1 n)) (fun n => x6 (ix1 n)) (fun n => x8 (ix1 n)) fun b n l => x0 (ix3 b n l)

/-- The features with one row per batch entry and node. -/
theorem v74_apply (b : Fin 128) (n : Fin 512) (l : Fin 10) :
    val_main_v74 (F := Ideal) x0 x3 x4 x5 x6 x7 x8 (ix2 (nodeRow b n) l) = featsOf x0 x3 x4 x5 x6 x7 x8 b n l := by
  have hn := n.isLt
  refine Eq.trans ?_ (v73_holds x0 x3 x4 x5 x6 x7 x8 b n l)
  unfold val_main_v74
  pointwise
  congr 2
  · exact Fin.ext (show ((b : ℕ) * 512 + n) / 512 = b by omega)
  · exact Fin.ext (show ((b : ℕ) * 512 + n) % 512 = n by omega)

/-- What is read along an edge: the neighbour's features. -/
theorem v110_apply (b : Fin 128) (i : Fin 512) (k : Fin 20) (l : Fin 10) :
    val_main_v110 (F := Ideal) x0 s t x3 x4 x5 x6 x7 x8 (ix2 (edge b i k) l)
      = featsOf x0 x3 x4 x5 x6 x7 x8 b (Spec.nbr (emb s) (emb t) i k) l := by
  rw [← v74_apply x0 x3 x4 x5 x6 x7 x8]
  unfold val_main_v110 val_main_call11_v14 val_main_call11_v13
  pointwise
  rw [v12_apply]
  refine (if_pos rfl).trans ?_
  exact Routing.gather_row gather_S65536x10_S1310720x1_S1310720x10_1_0_n_n_0_1_110 rfl rfl rfl rfl rfl _ _ (edge b i k) l _
    (v5_apply s t b i k) (by norm_num)

/-- The message passing's result: the rectified sum of the neighbours' features. -/
theorem v119_apply (b : Fin 128) (i : Fin 512) (l : Fin 10) :
    val_main_v119 (F := Ideal) x0 s t x3 x4 x5 x6 x7 x8 (ix2 (nodeRow b i) l)
      = Spec.agg (emb s) (emb t) (featsOf x0 x3 x4 x5 x6 x7 x8) b i l := by
  have h0 : val_main_v111 (F := Ideal) (ix2 (nodeRow b i) l) = (0 : EReal) := by
    unfold val_main_v111 val_main_cst_7
    pointwise
  unfold val_main_v119 val_main_call12_v0 val_main_call12_cst Spec.agg
  pointwise
  unfold val_main_v118
  rw [scatter_apply, h0, zero_add]
  simp only [v110_apply]

/-- The reference's result is the specification's. -/
theorem v126_apply (b : Fin 128) (i : Fin 512) (q : Fin 138) :
    val_main_v126 (F := Ideal) x0 s t x3 x4 x5 x6 x7 x8 (ix2 (nodeRow b i) q)
      = Spec.out (emb s) (emb t) (featsOf x0 x3 x4 x5 x6 x7 x8) b i q := by
  have hi := i.isLt
  unfold val_main_v126 Spec.out val_main_v125 val_main_v124 val_main_v123 val_main_v122 val_main_v121 val_main_v120
  pointwise
  by_cases h : (q : ℕ) < 10
  · rw [dif_pos h, dif_pos h, v119_apply]
  · rw [dif_neg h, dif_neg h]
    have hr : ((nodeRow b i : ℕ)) % 512 = i := show ((b : ℕ) * 512 + i) % 512 = i by omega
    by_cases h' : (q : ℕ) < 74
    · rw [dif_pos (show (q : ℕ) - 10 < 64 by omega), dif_pos h']
      exact congrArg (fun z => s (ix2 z _)) (Fin.ext hr)
    · rw [dif_neg (show ¬ (q : ℕ) - 10 < 64 by omega), dif_neg h']
      exact congrArg₂ (fun y z => t (ix2 y z)) (Fin.ext hr) (Fin.ext (show (q : ℕ) - 10 - 64 = q - 74 by omega))

end

end Cert.ReferenceIdeal.Hand

end
-- ==== Proof.Equation.lean ====
/- The equation: where no row of an embedding is zero, the kernel's result array is the reference's. -/
module

public import proofs.«01_k».proof.Proof.KernelRead
public import proofs.«01_k».proof.Proof.RefScatter

@[expose] public section

set_option maxRecDepth 16384

noncomputable section

namespace Cert.Equation

open Idealize.ShloMosaic Cert.KernelIdeal

/-- Kernel and reference have the same result array: both are `Spec.out`, entry by entry. -/
theorem kernel_eq_reference (x : FVec Ideal S128x512x10 .f32) (s t : FVec Ideal S512x64 .f32)
    (w1 : FVec Ideal S512x512x3 .f32) (b1 : FVec Ideal S512 .f32) (w2 : FVec Ideal S512x512x3 .f32)
    (b2 : FVec Ideal S512 .f32) (w3 : FVec Ideal S512x512x3 .f32) (b3 : FVec Ideal S512 .f32)
    (hs : Spec.RowsNonzero (Cert.KernelIdeal.Hand.emb s)) (ht : Spec.RowsNonzero (Cert.KernelIdeal.Hand.emb t)) :
    Cert.ReferenceIdeal.Read.val_main_v126 (F := Ideal) x s t w1 b1 w2 b2 w3 b3
      = Cert.KernelIdeal.Hand.kernelOut x s t w1 b1 w2 b2 w3 b3 := by
  funext y
  idx_vars y
  obtain ⟨b, i, rfl⟩ : ∃ (b : Fin 128) (i : Fin 512), y0 = Cert.ReferenceIdeal.Hand.nodeRow b i := by
    have hr := y0.isLt
    exact ⟨⟨(y0 : ℕ) / 512, by omega⟩, ⟨(y0 : ℕ) % 512, by omega⟩, Fin.ext (by show (y0 : ℕ) = (y0 : ℕ) / 512 * 512 + (y0 : ℕ) % 512; omega)⟩
  exact (Cert.ReferenceIdeal.Hand.v126_apply x s t w1 b1 w2 b2 w3 b3 b i y1).trans
    (Cert.KernelIdeal.Hand.kernelOut_apply x s t w1 w2 w3 b1 b2 b3 hs ht b i _ rfl y1).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_embeddings_nonzero
public import proofs.«01_k».proof.Proof.Precondition
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, its arguments end unchanged and no counter is left set: it is host code and declares no
    semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- Where the precondition holds, the kernel's run and the reference's end with the same result array. -/
theorem algebraic : Cert.algebraic_KernelIdeal_ReferenceIdeal_pre_embeddings_nonzero := by
  intro m ρ m' ρ' hpre hagree
  refine ⟨fun c => Cert.KernelIdeal.Hand.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨((h.1 c).1).trans (Cert.KernelIdeal.Hand.W5_v14 m ρ c), (h.1 c).2⟩)
      (Cert.KernelIdeal.Hand.run m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    obtain ⟨hs, ht⟩ := Cert.Pre_embeddings_nonzero.Hand.rows_nonzero _ _ _ _ _ _ _ _ _ (fun i => congrFun (hpre c) (ix1 i))
    refine (Cert.ReferenceIdeal.Read.val_main_v126_eq (F := Ideal) (StableHlo.launchContents m' c)).trans ?_
    show Cert.ReferenceIdeal.Read.val_main_v126 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) = _
    rw [a0, a1, a2, a3, a4, a5, a6, a7, a8]
    exact Cert.Equation.kernel_eq_reference _ _ _ _ _ _ _ _ _ hs ht

theorem claim : Cert.Claim :=
  ⟨Cert.Kernel.Gen.facts, Cert.KernelIdeal.Gen.facts, Cert.ReferenceIdeal.Gen.facts, Cert.Pre_embeddings_nonzero.Gen.facts,
    fun m ρ _ => Cert.Kernel.Gen.frame m ρ,
    fun m ρ _ => Cert.KernelIdeal.Gen.frame m ρ,
    fun m ρ _ => Cert.KernelIdeal.Gen.frame m ρ,
    fun m ρ _ => frame_reference m ρ,
    fun m ρ _ => frame_reference m ρ,
    trivial,
    algebraic⟩

end Cert.Proof

end
